-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3)
      ∧ r.2.mem ((c.tc : Thread Cert.PrepKernel.nD Cert.PrepKernel.τ).loc Cert.PrepKernel.main_arg4) = m ((c.tc : Thread Cert.PrepKernel.nD Cert.PrepKernel.τ).loc Cert.PrepKernel.main_arg4)
      ∧ r.2.mem ((c.tc : Thread Cert.PrepKernel.nD Cert.PrepKernel.τ).loc Cert.PrepKernel.main_arg5) = m ((c.tc : Thread Cert.PrepKernel.nD Cert.PrepKernel.τ).loc Cert.PrepKernel.main_arg5)
      ∧ r.2.mem ((c.tc : Thread Cert.PrepKernel.nD Cert.PrepKernel.τ).loc Cert.PrepKernel.main_arg6) = m ((c.tc : Thread Cert.PrepKernel.nD Cert.PrepKernel.τ).loc Cert.PrepKernel.main_arg6)
      ∧ r.2.mem ((c.tc : Thread Cert.PrepKernel.nD Cert.PrepKernel.τ).loc Cert.PrepKernel.main_arg7) = m ((c.tc : Thread Cert.PrepKernel.nD Cert.PrepKernel.τ).loc Cert.PrepKernel.main_arg7)
      ∧ r.2.mem ((c.tc : Thread Cert.PrepKernel.nD Cert.PrepKernel.τ).loc Cert.PrepKernel.main_arg8) = m ((c.tc : Thread Cert.PrepKernel.nD Cert.PrepKernel.τ).loc Cert.PrepKernel.main_arg8)
      ∧ r.2.mem ((c.tc : Thread Cert.PrepKernel.nD Cert.PrepKernel.τ).loc Cert.PrepKernel.main_arg9) = m ((c.tc : Thread Cert.PrepKernel.nD Cert.PrepKernel.τ).loc Cert.PrepKernel.main_arg9)
      ∧ r.2.mem ((c.tc : Thread Cert.PrepKernel.nD Cert.PrepKernel.τ).loc Cert.PrepKernel.main_arg10) = m ((c.tc : Thread Cert.PrepKernel.nD Cert.PrepKernel.τ).loc Cert.PrepKernel.main_arg10)
      ∧ r.2.mem ((c.tc : Thread Cert.PrepKernel.nD Cert.PrepKernel.τ).loc Cert.PrepKernel.main_arg11) = m ((c.tc : Thread Cert.PrepKernel.nD Cert.PrepKernel.τ).loc Cert.PrepKernel.main_arg11))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
      ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
      ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8)
      ∧ r.2.mem ((c.tc : Thread Cert.PrepKernelIdeal.nD Cert.PrepKernelIdeal.τ).loc Cert.PrepKernelIdeal.main_arg9) = m ((c.tc : Thread Cert.PrepKernelIdeal.nD Cert.PrepKernelIdeal.τ).loc Cert.PrepKernelIdeal.main_arg9)
      ∧ r.2.mem ((c.tc : Thread Cert.PrepKernelIdeal.nD Cert.PrepKernelIdeal.τ).loc Cert.PrepKernelIdeal.main_arg10) = m ((c.tc : Thread Cert.PrepKernelIdeal.nD Cert.PrepKernelIdeal.τ).loc Cert.PrepKernelIdeal.main_arg10)
      ∧ r.2.mem ((c.tc : Thread Cert.PrepKernelIdeal.nD Cert.PrepKernelIdeal.τ).loc Cert.PrepKernelIdeal.main_arg11) = m ((c.tc : Thread Cert.PrepKernelIdeal.nD Cert.PrepKernelIdeal.τ).loc Cert.PrepKernelIdeal.main_arg11))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9)
      ∧ r.2.mem ((c.tc : Thread Cert.PrepReferenceIdeal.nD Cert.PrepReferenceIdeal.τ).loc Cert.PrepReferenceIdeal.main_arg10) = m ((c.tc : Thread Cert.PrepReferenceIdeal.nD Cert.PrepReferenceIdeal.τ).loc Cert.PrepReferenceIdeal.main_arg10)
      ∧ r.2.mem ((c.tc : Thread Cert.PrepReferenceIdeal.nD Cert.PrepReferenceIdeal.τ).loc Cert.PrepReferenceIdeal.main_arg11) = m ((c.tc : Thread Cert.PrepReferenceIdeal.nD Cert.PrepReferenceIdeal.τ).loc Cert.PrepReferenceIdeal.main_arg11))
      ∧ r.2.sem = fun _ => 0)

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)) →
    ∃ (v0 : (c : Dev Cert.FfnKernelIdeal.nD) → Buf (Elt Ideal) ((c.tc : Thread Cert.FfnKernelIdeal.nD Cert.FfnKernelIdeal.τ).loc Cert.FfnKernelIdeal.main_v13)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v13) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v40) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)
      ∧ m' ((c.tc : Thread Cert.PrepReferenceIdeal.nD Cert.PrepReferenceIdeal.τ).loc Cert.PrepReferenceIdeal.main_arg4) = m ((c.tc : Thread Cert.PrepKernelIdeal.nD Cert.PrepKernelIdeal.τ).loc Cert.PrepKernelIdeal.main_arg4)
      ∧ m' ((c.tc : Thread Cert.PrepReferenceIdeal.nD Cert.PrepReferenceIdeal.τ).loc Cert.PrepReferenceIdeal.main_arg5) = m ((c.tc : Thread Cert.PrepKernelIdeal.nD Cert.PrepKernelIdeal.τ).loc Cert.PrepKernelIdeal.main_arg5)
      ∧ m' ((c.tc : Thread Cert.PrepReferenceIdeal.nD Cert.PrepReferenceIdeal.τ).loc Cert.PrepReferenceIdeal.main_arg6) = m ((c.tc : Thread Cert.PrepKernelIdeal.nD Cert.PrepKernelIdeal.τ).loc Cert.PrepKernelIdeal.main_arg6)
      ∧ m' ((c.tc : Thread Cert.PrepReferenceIdeal.nD Cert.PrepReferenceIdeal.τ).loc Cert.PrepReferenceIdeal.main_arg7) = m ((c.tc : Thread Cert.PrepKernelIdeal.nD Cert.PrepKernelIdeal.τ).loc Cert.PrepKernelIdeal.main_arg7)
      ∧ m' ((c.tc : Thread Cert.PrepReferenceIdeal.nD Cert.PrepReferenceIdeal.τ).loc Cert.PrepReferenceIdeal.main_arg8) = m ((c.tc : Thread Cert.PrepKernelIdeal.nD Cert.PrepKernelIdeal.τ).loc Cert.PrepKernelIdeal.main_arg8)
      ∧ m' ((c.tc : Thread Cert.PrepReferenceIdeal.nD Cert.PrepReferenceIdeal.τ).loc Cert.PrepReferenceIdeal.main_arg9) = m ((c.tc : Thread Cert.PrepKernelIdeal.nD Cert.PrepKernelIdeal.τ).loc Cert.PrepKernelIdeal.main_arg9)
      ∧ m' ((c.tc : Thread Cert.PrepReferenceIdeal.nD Cert.PrepReferenceIdeal.τ).loc Cert.PrepReferenceIdeal.main_arg10) = m ((c.tc : Thread Cert.PrepKernelIdeal.nD Cert.PrepKernelIdeal.τ).loc Cert.PrepKernelIdeal.main_arg10)
      ∧ m' ((c.tc : Thread Cert.PrepReferenceIdeal.nD Cert.PrepReferenceIdeal.τ).loc Cert.PrepReferenceIdeal.main_arg11) = m ((c.tc : Thread Cert.PrepKernelIdeal.nD Cert.PrepKernelIdeal.τ).loc Cert.PrepKernelIdeal.main_arg11)) →
    ∃ (v0 : (c : Dev Cert.PrepKernelIdeal.nD) → Buf (Elt Ideal) ((c.tc : Thread Cert.PrepKernelIdeal.nD Cert.PrepKernelIdeal.τ).loc Cert.PrepKernelIdeal.main_v62_0)) (v1 : (c : Dev Cert.PrepKernelIdeal.nD) → Buf (Elt Ideal) ((c.tc : Thread Cert.PrepKernelIdeal.nD Cert.PrepKernelIdeal.τ).loc Cert.PrepKernelIdeal.main_v62_1)) (v2 : (c : Dev Cert.PrepKernelIdeal.nD) → Buf (Elt Ideal) ((c.tc : Thread Cert.PrepKernelIdeal.nD Cert.PrepKernelIdeal.τ).loc Cert.PrepKernelIdeal.main_v62_2)) (v3 : (c : Dev Cert.PrepKernelIdeal.nD) → Buf (Elt Ideal) ((c.tc : Thread Cert.PrepKernelIdeal.nD Cert.PrepKernelIdeal.τ).loc Cert.PrepKernelIdeal.main_v62_3)) (v4 : (c : Dev Cert.PrepKernelIdeal.nD) → Buf (Elt Ideal) ((c.tc : Thread Cert.PrepKernelIdeal.nD Cert.PrepKernelIdeal.τ).loc Cert.PrepKernelIdeal.main_v62_4)) (v5 : (c : Dev Cert.PrepKernelIdeal.nD) → Buf (Elt Ideal) ((c.tc : Thread Cert.PrepKernelIdeal.nD Cert.PrepKernelIdeal.τ).loc Cert.PrepKernelIdeal.main_v62_5)) (v6 : (c : Dev Cert.PrepKernelIdeal.nD) → Buf (Elt Ideal) ((c.tc : Thread Cert.PrepKernelIdeal.nD Cert.PrepKernelIdeal.τ).loc Cert.PrepKernelIdeal.main_v62_6)) (v7 : (c : Dev Cert.PrepKernelIdeal.nD) → Buf (Elt Ideal) ((c.tc : Thread Cert.PrepKernelIdeal.nD Cert.PrepKernelIdeal.τ).loc Cert.PrepKernelIdeal.main_v62_7)) (v8 : (c : Dev Cert.PrepKernelIdeal.nD) → Buf (Elt Ideal) ((c.tc : Thread Cert.PrepKernelIdeal.nD Cert.PrepKernelIdeal.τ).loc Cert.PrepKernelIdeal.main_v62_8)) (v9 : (c : Dev Cert.PrepKernelIdeal.nD) → Buf (Elt Ideal) ((c.tc : Thread Cert.PrepKernelIdeal.nD Cert.PrepKernelIdeal.τ).loc Cert.PrepKernelIdeal.main_v62_9)) (v10 : (c : Dev Cert.PrepKernelIdeal.nD) → Buf (Elt Ideal) ((c.tc : Thread Cert.PrepKernelIdeal.nD Cert.PrepKernelIdeal.τ).loc Cert.PrepKernelIdeal.main_v62_10)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v62_0) = v0 c
          ∧ r.2.mem ((c.tc : Thread Cert.PrepKernelIdeal.nD Cert.PrepKernelIdeal.τ).loc Cert.PrepKernelIdeal.main_v62_1) = v1 c
          ∧ r.2.mem ((c.tc : Thread Cert.PrepKernelIdeal.nD Cert.PrepKernelIdeal.τ).loc Cert.PrepKernelIdeal.main_v62_2) = v2 c
          ∧ r.2.mem ((c.tc : Thread Cert.PrepKernelIdeal.nD Cert.PrepKernelIdeal.τ).loc Cert.PrepKernelIdeal.main_v62_3) = v3 c
          ∧ r.2.mem ((c.tc : Thread Cert.PrepKernelIdeal.nD Cert.PrepKernelIdeal.τ).loc Cert.PrepKernelIdeal.main_v62_4) = v4 c
          ∧ r.2.mem ((c.tc : Thread Cert.PrepKernelIdeal.nD Cert.PrepKernelIdeal.τ).loc Cert.PrepKernelIdeal.main_v62_5) = v5 c
          ∧ r.2.mem ((c.tc : Thread Cert.PrepKernelIdeal.nD Cert.PrepKernelIdeal.τ).loc Cert.PrepKernelIdeal.main_v62_6) = v6 c
          ∧ r.2.mem ((c.tc : Thread Cert.PrepKernelIdeal.nD Cert.PrepKernelIdeal.τ).loc Cert.PrepKernelIdeal.main_v62_7) = v7 c
          ∧ r.2.mem ((c.tc : Thread Cert.PrepKernelIdeal.nD Cert.PrepKernelIdeal.τ).loc Cert.PrepKernelIdeal.main_v62_8) = v8 c
          ∧ r.2.mem ((c.tc : Thread Cert.PrepKernelIdeal.nD Cert.PrepKernelIdeal.τ).loc Cert.PrepKernelIdeal.main_v62_9) = v9 c
          ∧ r.2.mem ((c.tc : Thread Cert.PrepKernelIdeal.nD Cert.PrepKernelIdeal.τ).loc Cert.PrepKernelIdeal.main_v62_10) = v10 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
          ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
          ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
          ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
          ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
          ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8)
          ∧ r.2.mem ((c.tc : Thread Cert.PrepKernelIdeal.nD Cert.PrepKernelIdeal.τ).loc Cert.PrepKernelIdeal.main_arg9) = m ((c.tc : Thread Cert.PrepKernelIdeal.nD Cert.PrepKernelIdeal.τ).loc Cert.PrepKernelIdeal.main_arg9)
          ∧ r.2.mem ((c.tc : Thread Cert.PrepKernelIdeal.nD Cert.PrepKernelIdeal.τ).loc Cert.PrepKernelIdeal.main_arg10) = m ((c.tc : Thread Cert.PrepKernelIdeal.nD Cert.PrepKernelIdeal.τ).loc Cert.PrepKernelIdeal.main_arg10)
          ∧ r.2.mem ((c.tc : Thread Cert.PrepKernelIdeal.nD Cert.PrepKernelIdeal.τ).loc Cert.PrepKernelIdeal.main_arg11) = m ((c.tc : Thread Cert.PrepKernelIdeal.nD Cert.PrepKernelIdeal.τ).loc Cert.PrepKernelIdeal.main_arg11))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v133) = v0 c
          ∧ r.2.mem ((c.tc : Thread Cert.PrepReferenceIdeal.nD Cert.PrepReferenceIdeal.τ).loc Cert.PrepReferenceIdeal.main_v135) = v1 c
          ∧ r.2.mem ((c.tc : Thread Cert.PrepReferenceIdeal.nD Cert.PrepReferenceIdeal.τ).loc Cert.PrepReferenceIdeal.main_v137) = v2 c
          ∧ r.2.mem ((c.tc : Thread Cert.PrepReferenceIdeal.nD Cert.PrepReferenceIdeal.τ).loc Cert.PrepReferenceIdeal.main_v139) = v3 c
          ∧ r.2.mem ((c.tc : Thread Cert.PrepReferenceIdeal.nD Cert.PrepReferenceIdeal.τ).loc Cert.PrepReferenceIdeal.main_v141) = v4 c
          ∧ r.2.mem ((c.tc : Thread Cert.PrepReferenceIdeal.nD Cert.PrepReferenceIdeal.τ).loc Cert.PrepReferenceIdeal.main_v143) = v5 c
          ∧ r.2.mem ((c.tc : Thread Cert.PrepReferenceIdeal.nD Cert.PrepReferenceIdeal.τ).loc Cert.PrepReferenceIdeal.main_v145) = v6 c
          ∧ r.2.mem ((c.tc : Thread Cert.PrepReferenceIdeal.nD Cert.PrepReferenceIdeal.τ).loc Cert.PrepReferenceIdeal.main_v146) = v7 c
          ∧ r.2.mem ((c.tc : Thread Cert.PrepReferenceIdeal.nD Cert.PrepReferenceIdeal.τ).loc Cert.PrepReferenceIdeal.main_v147) = v8 c
          ∧ r.2.mem ((c.tc : Thread Cert.PrepReferenceIdeal.nD Cert.PrepReferenceIdeal.τ).loc Cert.PrepReferenceIdeal.main_v148) = v9 c
          ∧ r.2.mem ((c.tc : Thread Cert.PrepReferenceIdeal.nD Cert.PrepReferenceIdeal.τ).loc Cert.PrepReferenceIdeal.main_v150) = v10 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7)
          ∧ r.2.mem ((c.tc : Thread Cert.PrepReferenceIdeal.nD Cert.PrepReferenceIdeal.τ).loc Cert.PrepReferenceIdeal.main_arg8) = m' ((c.tc : Thread Cert.PrepReferenceIdeal.nD Cert.PrepReferenceIdeal.τ).loc Cert.PrepReferenceIdeal.main_arg8)
          ∧ r.2.mem ((c.tc : Thread Cert.PrepReferenceIdeal.nD Cert.PrepReferenceIdeal.τ).loc Cert.PrepReferenceIdeal.main_arg9) = m' ((c.tc : Thread Cert.PrepReferenceIdeal.nD Cert.PrepReferenceIdeal.τ).loc Cert.PrepReferenceIdeal.main_arg9)
          ∧ r.2.mem ((c.tc : Thread Cert.PrepReferenceIdeal.nD Cert.PrepReferenceIdeal.τ).loc Cert.PrepReferenceIdeal.main_arg10) = m' ((c.tc : Thread Cert.PrepReferenceIdeal.nD Cert.PrepReferenceIdeal.τ).loc Cert.PrepReferenceIdeal.main_arg10)
          ∧ r.2.mem ((c.tc : Thread Cert.PrepReferenceIdeal.nD Cert.PrepReferenceIdeal.τ).loc Cert.PrepReferenceIdeal.main_arg11) = m' ((c.tc : Thread Cert.PrepReferenceIdeal.nD Cert.PrepReferenceIdeal.τ).loc Cert.PrepReferenceIdeal.main_arg11))

def Claim : Prop :=
  ∃ (hFfnKernel : Cert.FfnKernel.Facts) (hFfnKernelIdeal : Cert.FfnKernelIdeal.Facts) (hFfnReferenceIdeal : Cert.FfnReferenceIdeal.Facts) (hPrepKernel : Cert.PrepKernel.Facts) (hPrepKernelIdeal : Cert.PrepKernelIdeal.Facts) (hPrepReferenceIdeal : Cert.PrepReferenceIdeal.Facts),
    quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_PrepKernel_PrepKernelIdeal
    ∧ algebraic_PrepKernelIdeal_PrepReferenceIdeal (hPrepKernelIdeal := hPrepKernelIdeal) (hPrepReferenceIdeal := hPrepReferenceIdeal)
-- ==== FfnKernel.lean ====
abbrev S16x2048x1024 : Shape := ⟨3, ![16, 2048, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32768x1024 : Shape := ⟨2, ![32768, 1024]⟩
abbrev S1024x1024 : Shape := ⟨2, ![1024, 1024]⟩
abbrev S1024x2816 : Shape := ⟨2, ![1024, 2816]⟩
abbrev S2816x1024 : Shape := ⟨2, ![2816, 1024]⟩
abbrev S1024x1 : Shape := ⟨2, ![1024, 1]⟩

abbrev nBuf : Space → Nat
  | .hbm => 22
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S1x1024x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024, .f32⟩
  | .hbm, ⟨8, _⟩ => ⟨S32768x1024, .f32⟩
  | .hbm, ⟨9, _⟩ => ⟨S32768x1024, .bf16⟩
  | .hbm, ⟨10, _⟩ => ⟨S1024x1024, .f32⟩
  | .hbm, ⟨11, _⟩ => ⟨S1024x1024, .bf16⟩
  | .hbm, ⟨12, _⟩ => ⟨S1024, .f32⟩
  | .hbm, ⟨13, _⟩ => ⟨S1x1024, .f32⟩
  | .hbm, ⟨14, _⟩ => ⟨S1024x2816, .f32⟩
  | .hbm, ⟨15, _⟩ => ⟨S1024x2816, .bf16⟩
  | .hbm, ⟨16, _⟩ => ⟨S1024x2816, .f32⟩
  | .hbm, ⟨17, _⟩ => ⟨S1024x2816, .bf16⟩
  | .hbm, ⟨18, _⟩ => ⟨S2816x1024, .f32⟩
  | .hbm, ⟨19, _⟩ => ⟨S2816x1024, .bf16⟩
  | .hbm, ⟨20, _⟩ => ⟨S1x1024, .f32⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnReferenceIdeal.lean ====
abbrev S16x2048x1024 : Shape := ⟨3, ![16, 2048, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2816 : Shape := ⟨2, ![1024, 2816]⟩
abbrev S16x2048x2816 : Shape := ⟨3, ![16, 2048, 2816]⟩
abbrev S2816x1024 : Shape := ⟨2, ![2816, 1024]⟩
abbrev S32768x1024 : Shape := ⟨2, ![32768, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S1x1024x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024, .f32⟩
  | .hbm, ⟨8, _⟩ => ⟨S16x2048x1024, .f32⟩
  | .hbm, ⟨9, _⟩ => ⟨S1024x1024, .f32⟩
  | .hbm, ⟨10, _⟩ => ⟨S16x2048x1024, .f32⟩
  | .hbm, ⟨11, _⟩ => ⟨S16x2048x1024, .f32⟩
  | .hbm, ⟨12, _⟩ => ⟨S1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S1024x2816, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S_, .f32⟩
  | .hbm, ⟨34, _⟩ => ⟨S16x2048x2816, .f32⟩
  | .hbm, ⟨35, _⟩ => ⟨S16x2048x2816, .f32⟩
  | .hbm, ⟨36, _⟩ => ⟨S_, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S1024x2816, .f32⟩
  | .hbm, ⟨41, _⟩ => ⟨S16x2048x2816, .f32⟩
  | .hbm, ⟨42, _⟩ => ⟨S16x2048x2816, .f32⟩
  | .hbm, ⟨43, _⟩ => ⟨S2816x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S_, .f32⟩
  | .hbm, ⟨48, _⟩ => ⟨S16x2048, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S16x2048x1, .f32⟩
  | .hbm, ⟨57, _⟩ => ⟨S16x2048x1024, .f32⟩
  | .hbm, ⟨58, _⟩ => ⟨S16x2048x1024, .f32⟩
  | .hbm, ⟨59, _⟩ => ⟨S1x1x1024, .f32⟩
  | .hbm, ⟨60, _⟩ => ⟨S16x2048x1024, .f32⟩
  | .hbm, ⟨61, _⟩ => ⟨S16x2048x1024, .f32⟩
  | .hbm, ⟨62, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== PrepKernel.lean ====
abbrev S16x2048x1024 : Shape := ⟨3, ![16, 2048, 1024]⟩
abbrev S1x1024 : Shape := ⟨2, ![1, 1024]⟩
abbrev S1x1024x3248 : Shape := ⟨3, ![1, 1024, 3248]⟩
abbrev S1x1696 : Shape := ⟨2, ![1, 1696]⟩
abbrev S1x512 : Shape := ⟨2, ![1, 512]⟩
abbrev S1x32x512 : Shape := ⟨3, ![1, 32, 512]⟩
abbrev S1x96x512 : Shape := ⟨3, ![1, 96, 512]⟩
abbrev S1x8x64 : Shape := ⟨3, ![1, 8, 64]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S32768x1024 : Shape := ⟨2, ![32768, 1024]⟩
abbrev S1024x3248 : Shape := ⟨2, ![1024, 3248]⟩
abbrev S1024x1696 : Shape := ⟨2, ![1024, 1696]⟩
abbrev S1024x1792 : Shape := ⟨2, ![1024, 1792]⟩
abbrev S1024x1552 : Shape := ⟨2, ![1024, 1552]⟩
abbrev S1024x1664 : Shape := ⟨2, ![1024, 1664]⟩
abbrev S32x512 : Shape := ⟨2, ![32, 512]⟩
abbrev S256x512 : Shape := ⟨2, ![256, 512]⟩
abbrev S1 : Shape := ⟨1, ![1]⟩
abbrev S96x512 : Shape := ⟨2, ![96, 512]⟩
abbrev S1696 : Shape := ⟨1, ![1696]⟩
abbrev S1x1792 : Shape := ⟨2, ![1, 1792]⟩
abbrev S1024 : Shape := ⟨1, ![1024]⟩
abbrev S512 : Shape := ⟨1, ![512]⟩
abbrev S8x64 : Shape := ⟨2, ![8, 64]⟩
abbrev S32768x512 : Shape := ⟨2, ![32768, 512]⟩
abbrev S512x512 : Shape := ⟨2, ![512, 512]⟩
abbrev S32768x1664 : Shape := ⟨2, ![32768, 1664]⟩
abbrev S512x1024 : Shape := ⟨2, ![512, 1024]⟩
abbrev S8x512 : Shape := ⟨2, ![8, 512]⟩
abbrev S512x1664 : Shape := ⟨2, ![512, 1664]⟩
abbrev S512x1 : Shape := ⟨2, ![512, 1]⟩
abbrev S1024x256 : Shape := ⟨2, ![1024, 256]⟩
abbrev S512x256 : Shape := ⟨2, ![512, 256]⟩
abbrev S1024x512 : Shape := ⟨2, ![1024, 512]⟩
abbrev S64x512 : Shape := ⟨2, ![64, 512]⟩
abbrev S1024x128 : Shape := ⟨2, ![1024, 128]⟩
abbrev S512x128 : Shape := ⟨2, ![512, 128]⟩

abbrev nBuf : Space → Nat
  | .hbm => 148
  | .vmem => 39
  | .smem => 0
  | _ => 0

abbrev hbmTy0_0 (i : Nat) : BufTy := match i % 128 with
  | 0 => ⟨S16x2048x1024, .f32⟩
  | 1 => ⟨S1x1024, .f32⟩
  | 2 => ⟨S1x1024x3248, .f32⟩
  | 3 => ⟨S1x1696, .f32⟩
  | 4 => ⟨S1x512, .f32⟩
  | 5 => ⟨S1x32x512, .f32⟩
  | 6 => ⟨S1x512, .f32⟩
  | 7 => ⟨S1x32x512, .f32⟩
  | 8 => ⟨S1x96x512, .f32⟩
  | 9 => ⟨S1x512, .f32⟩
  | 10 => ⟨S1x512, .f32⟩
  | 11 => ⟨S1x8x64, .f32⟩
  | 12 => ⟨S256, .i32⟩
  | 13 => ⟨S256x1, .i32⟩
  | 14 => ⟨S_, .i32⟩
  | 15 => ⟨S_, .i32⟩
  | 16 => ⟨S256x1, .i32⟩
  | 17 => ⟨S256x1, .i32⟩
  | 18 => ⟨S256x1, .i32⟩
  | 19 => ⟨S_, .i32⟩
  | 20 => ⟨S256x1, .i32⟩
  | 21 => ⟨S256x1, .i1⟩
  | 22 => ⟨S256x1, .i32⟩
  | 23 => ⟨S256x1, .i32⟩
  | 24 => ⟨S_, .i32⟩
  | 25 => ⟨S256x1, .i32⟩
  | 26 => ⟨S256x1, .i1⟩
  | 27 => ⟨S256x1, .i1⟩
  | 28 => ⟨S_, .i32⟩
  | 29 => ⟨S256x1, .i32⟩
  | 30 => ⟨S256x1, .i32⟩
  | 31 => ⟨S256x1, .i32⟩
  | 32 => ⟨S1x256, .i32⟩
  | 33 => ⟨S_, .i32⟩
  | 34 => ⟨S_, .i32⟩
  | 35 => ⟨S1x256, .i32⟩
  | 36 => ⟨S1x256, .i32⟩
  | 37 => ⟨S1x256, .i32⟩
  | 38 => ⟨S_, .i32⟩
  | 39 => ⟨S1x256, .i32⟩
  | 40 => ⟨S1x256, .i1⟩
  | 41 => ⟨S1x256, .i32⟩
  | 42 => ⟨S1x256, .i32⟩
  | 43 => ⟨S_, .i32⟩
  | 44 => ⟨S1x256, .i32⟩
  | 45 => ⟨S1x256, .i1⟩
  | 46 => ⟨S1x256, .i1⟩
  | 47 => ⟨S_, .i32⟩
  | 48 => ⟨S1x256, .i32⟩
  | 49 => ⟨S1x256, .i32⟩
  | 50 => ⟨S1x256, .i32⟩
  | 51 => ⟨S256x256, .i32⟩
  | 52 => ⟨S256x256, .i32⟩
  | 53 => ⟨S256x256, .i1⟩
  | 54 => ⟨S256x1, .i32⟩
  | 55 => ⟨S1x256, .i32⟩
  | 56 => ⟨S256x256, .i32⟩
  | 57 => ⟨S256x256, .i32⟩
  | 58 => ⟨S256x256, .i1⟩
  | 59 => ⟨S256x256, .i1⟩
  | 60 => ⟨S256x256, .bf16⟩
  | 61 => ⟨S256, .i32⟩
  | 62 => ⟨S_, .i32⟩
  | 63 => ⟨S_, .i32⟩
  | 64 => ⟨S256, .i32⟩
  | 65 => ⟨S256, .i32⟩
  | 66 => ⟨S256, .i32⟩
  | 67 => ⟨S_, .i32⟩
  | 68 => ⟨S256, .i32⟩
  | 69 => ⟨S256, .i1⟩
  | 70 => ⟨S256, .i32⟩
  | 71 => ⟨S256, .i32⟩
  | 72 => ⟨S_, .i32⟩
  | 73 => ⟨S256, .i32⟩
  | 74 => ⟨S256, .i1⟩
  | 75 => ⟨S256, .i1⟩
  | 76 => ⟨S_, .i32⟩
  | 77 => ⟨S256, .i32⟩
  | 78 => ⟨S256, .i32⟩
  | 79 => ⟨S256, .i32⟩
  | 80 => ⟨S256x1, .i32⟩
  | 81 => ⟨S1x256, .i32⟩
  | 82 => ⟨S256x256, .i32⟩
  | 83 => ⟨S256x256, .i32⟩
  | 84 => ⟨S256x256, .i1⟩
  | 85 => ⟨S256x256, .bf16⟩
  | 86 => ⟨S32768x1024, .f32⟩
  | 87 => ⟨S1024x3248, .f32⟩
  | 88 => ⟨S1024x1696, .f32⟩
  | 89 => ⟨S_, .i32⟩
  | 90 => ⟨S_, .f32⟩
  | 91 => ⟨S1024x1792, .f32⟩
  | 92 => ⟨S1024x1792, .bf16⟩
  | 93 => ⟨S1024x3248, .f32⟩
  | 94 => ⟨S1024x1552, .f32⟩
  | 95 => ⟨S_, .i32⟩
  | 96 => ⟨S_, .f32⟩
  | 97 => ⟨S1024x1664, .f32⟩
  | 98 => ⟨S1024x1664, .bf16⟩
  | 99 => ⟨S32x512, .f32⟩
  | 100 => ⟨S_, .f32⟩
  | 101 => ⟨S256x512, .f32⟩
  | 102 => ⟨S_, .i32⟩
  | 103 => ⟨S1, .i32⟩
  | 104 => ⟨S256x512, .f32⟩
  | 105 => ⟨S256x512, .bf16⟩
  | 106 => ⟨S32x512, .f32⟩
  | 107 => ⟨S_, .f32⟩
  | 108 => ⟨S256x512, .f32⟩
  | 109 => ⟨S_, .i32⟩
  | 110 => ⟨S1, .i32⟩
  | 111 => ⟨S256x512, .f32⟩
  | 112 => ⟨S256x512, .bf16⟩
  | 113 => ⟨S96x512, .f32⟩
  | 114 => ⟨S_, .f32⟩
  | 115 => ⟨S256x512, .f32⟩
  | 116 => ⟨S_, .i32⟩
  | 117 => ⟨S1, .i32⟩
  | 118 => ⟨S256x512, .f32⟩
  | 119 => ⟨S256x512, .bf16⟩
  | 120 => ⟨S1696, .f32⟩
  | 121 => ⟨S1x1696, .f32⟩
  | 122 => ⟨S_, .i32⟩
  | 123 => ⟨S_, .f32⟩
  | 124 => ⟨S1x1792, .f32⟩
  | 125 => ⟨S1024, .f32⟩
  | 126 => ⟨S1x1024, .f32⟩
  | 127 => ⟨S512, .f32⟩
  | _ => ⟨S16x2048x1024, .f32⟩

abbrev hbmTy0_1 (i : Nat) : BufTy := match i % 128 with
  | 0 => ⟨S1x512, .f32⟩
  | 1 => ⟨S512, .f32⟩
  | 2 => ⟨S1x512, .f32⟩
  | 3 => ⟨S512, .f32⟩
  | 4 => ⟨S1x512, .f32⟩
  | 5 => ⟨S512, .f32⟩
  | 6 => ⟨S1x512, .f32⟩
  | 7 => ⟨S8x64, .f32⟩
  | 8 => ⟨S1x512, .f32⟩
  | 9 => ⟨S32768x512, .bf16⟩
  | 10 => ⟨S32768x512, .bf16⟩
  | 11 => ⟨S32768x512, .bf16⟩
  | 12 => ⟨S32768x512, .bf16⟩
  | 13 => ⟨S32768x512, .bf16⟩
  | 14 => ⟨S32768x512, .bf16⟩
  | 15 => ⟨S32768x512, .bf16⟩
  | 16 => ⟨S32768x512, .f32⟩
  | 17 => ⟨S32768x512, .f32⟩
  | 18 => ⟨S512x512, .f32⟩
  | 19 => ⟨S32768x1664, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1664, .bf16⟩
  | .local _ .vmem, ⟨5, _⟩ => ⟨S1x1792, .f32⟩
  | .local _ .vmem, ⟨6, _⟩ => ⟨S1x512, .f32⟩
  | .local _ .vmem, ⟨7, _⟩ => ⟨S256x512, .bf16⟩
  | .local _ .vmem, ⟨8, _⟩ => ⟨S1x512, .f32⟩
  | .local _ .vmem, ⟨9, _⟩ => ⟨S256x512, .bf16⟩
  | .local _ .vmem, ⟨10, _⟩ => ⟨S256x512, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S256x256, .bf16⟩
  | .local _ .vmem, ⟨15, _⟩ => ⟨S256x256, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S8x512, .f32⟩
  | .local _ .vmem, ⟨35, _⟩ => ⟨S8x512, .f32⟩
  | .local _ .vmem, ⟨36, _⟩ => ⟨S512x1664, .f32⟩
  | .local _ .vmem, ⟨37, _⟩ => ⟨S512x1664, .f32⟩
  | .local _ .vmem, ⟨38, _⟩ => ⟨S1x1792, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v2 : Ref sig .tc := ⟨.hbm, 31, rfl⟩
abbrev main_v3 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_c_1 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_c : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_0 : Ref sig .tc := ⟨.hbm, 76, rfl⟩
abbrev main_call2_v12 : Ref sig .tc := ⟨.hbm, 77, rfl⟩
abbrev main_call2_v13 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_c_2 : Ref sig .tc := ⟨.hbm, 89, rfl⟩
abbrev main_call3_v0 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_c_3 : Ref sig .tc := ⟨.hbm, 95, rfl⟩
abbrev main_call4_v0 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_cst : Ref sig .tc := ⟨.hbm, 100, rfl⟩
abbrev main_v33 : Ref sig .tc := ⟨.hbm, 101, rfl⟩
abbrev main_c_4 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_cst_5 : Ref sig .tc := ⟨.hbm, 107, rfl⟩
abbrev main_v38 : Ref sig .tc := ⟨.hbm, 108, rfl⟩
abbrev main_c_6 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_cst_7 : Ref sig .tc := ⟨.hbm, 114, rfl⟩
abbrev main_v43 : Ref sig .tc := ⟨.hbm, 115, rfl⟩
abbrev main_c_8 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_c_9 : Ref sig .tc := ⟨.hbm, 122, rfl⟩
abbrev main_call5_v0 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62_0 : Ref sig .tc := ⟨.hbm, 137, rfl⟩
abbrev main_v62_1 : Ref sig .tc := ⟨.hbm, 138, rfl⟩
abbrev main_v62_2 : Ref sig .tc := ⟨.hbm, 139, rfl⟩
abbrev main_v62_3 : Ref sig .tc := ⟨.hbm, 140, rfl⟩
abbrev main_v62_4 : Ref sig .tc := ⟨.hbm, 141, rfl⟩
abbrev main_v62_5 : Ref sig .tc := ⟨.hbm, 142, rfl⟩
abbrev main_v62_6 : Ref sig .tc := ⟨.hbm, 143, rfl⟩
abbrev main_v62_7 : Ref sig .tc := ⟨.hbm, 144, rfl⟩
abbrev main_v62_8 : Ref sig .tc := ⟨.hbm, 145, rfl⟩
abbrev main_v62_9 : Ref sig .tc := ⟨.hbm, 146, rfl⟩
abbrev main_v62_10 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S8x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x1664 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== PrepReferenceIdeal.lean ====
abbrev S16x2048x1024 : Shape := ⟨3, ![16, 2048, 1024]⟩
abbrev S1x1024 : Shape := ⟨2, ![1, 1024]⟩
abbrev S1x1024x3248 : Shape := ⟨3, ![1, 1024, 3248]⟩
abbrev S1x1696 : Shape := ⟨2, ![1, 1696]⟩
abbrev S1x512 : Shape := ⟨2, ![1, 512]⟩
abbrev S1x32x512 : Shape := ⟨3, ![1, 32, 512]⟩
abbrev S1x96x512 : Shape := ⟨3, ![1, 96, 512]⟩
abbrev S1x8x64 : Shape := ⟨3, ![1, 8, 64]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3248 : Shape := ⟨2, ![1024, 3248]⟩
abbrev S16x2048x3248 : Shape := ⟨3, ![16, 2048, 3248]⟩
abbrev S16x2048x1696 : Shape := ⟨3, ![16, 2048, 1696]⟩
abbrev S16x2048x1552 : Shape := ⟨3, ![16, 2048, 1552]⟩
abbrev S1696 : Shape := ⟨1, ![1696]⟩
abbrev S512 : Shape := ⟨1, ![512]⟩
abbrev S32x512 : Shape := ⟨2, ![32, 512]⟩
abbrev S96x512 : Shape := ⟨2, ![96, 512]⟩
abbrev S8x64 : Shape := ⟨2, ![8, 64]⟩
abbrev S16x2047x1696 : Shape := ⟨3, ![16, 2047, 1696]⟩
abbrev S1x1x1696 : Shape := ⟨3, ![1, 1, 1696]⟩
abbrev S16x2048x512 : Shape := ⟨3, ![16, 2048, 512]⟩
abbrev S16x2048x32 : Shape := ⟨3, ![16, 2048, 32]⟩
abbrev S16x2048x96 : Shape := ⟨3, ![16, 2048, 96]⟩
abbrev S1x1x512 : Shape := ⟨3, ![1, 1, 512]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S1x1x8x64 : Shape := ⟨4, ![1, 1, 8, 64]⟩
abbrev S16x32x64x512 : Shape := ⟨4, ![16, 32, 64, 512]⟩
abbrev S16x32x1x512 : Shape := ⟨4, ![16, 32, 1, 512]⟩
abbrev S32768x512 : Shape := ⟨2, ![32768, 512]⟩
abbrev S512x512 : Shape := ⟨2, ![512, 512]⟩
abbrev S32768x1552 : Shape := ⟨2, ![32768, 1552]⟩
abbrev S32768x1664 : Shape := ⟨2, ![32768, 1664]⟩

abbrev nBuf : Space → Nat
  | .hbm => 195
  | .vmem => 0
  | .smem => 0
  | _ => 0

abbrev hbmTy0_0 (i : Nat) : BufTy := match i % 128 with
  | 0 => ⟨S16x2048x1024, .f32⟩
  | 1 => ⟨S1x1024, .f32⟩
  | 2 => ⟨S1x1024x3248, .f32⟩
  | 3 => ⟨S1x1696, .f32⟩
  | 4 => ⟨S1x512, .f32⟩
  | 5 => ⟨S1x32x512, .f32⟩
  | 6 => ⟨S1x512, .f32⟩
  | 7 => ⟨S1x32x512, .f32⟩
  | 8 => ⟨S1x96x512, .f32⟩
  | 9 => ⟨S1x512, .f32⟩
  | 10 => ⟨S1x512, .f32⟩
  | 11 => ⟨S1x8x64, .f32⟩
  | 12 => ⟨S1024, .f32⟩
  | 13 => ⟨S16x2048x1024, .f32⟩
  | 14 => ⟨S_, .f32⟩
  | 15 => ⟨S16x2048, .f32⟩
  | 16 => ⟨S16x2048x1, .f32⟩
  | 17 => ⟨S_, .f32⟩
  | 18 => ⟨S16x2048x1, .f32⟩
  | 19 => ⟨S16x2048x1, .f32⟩
  | 20 => ⟨S_, .f32⟩
  | 21 => ⟨S16x2048x1, .f32⟩
  | 22 => ⟨S16x2048x1, .f32⟩
  | 23 => ⟨S16x2048x1, .f32⟩
  | 24 => ⟨S16x2048x1024, .f32⟩
  | 25 => ⟨S16x2048x1024, .f32⟩
  | 26 => ⟨S1x1x1024, .f32⟩
  | 27 => ⟨S16x2048x1024, .f32⟩
  | 28 => ⟨S16x2048x1024, .f32⟩
  | 29 => ⟨S1024x3248, .f32⟩
  | 30 => ⟨S16x2048x3248, .f32⟩
  | 31 => ⟨S16x2048x1696, .f32⟩
  | 32 => ⟨S16x2048x1552, .f32⟩
  | 33 => ⟨S1696, .f32⟩
  | 34 => ⟨S512, .f32⟩
  | 35 => ⟨S32x512, .f32⟩
  | 36 => ⟨S512, .f32⟩
  | 37 => ⟨S32x512, .f32⟩
  | 38 => ⟨S96x512, .f32⟩
  | 39 => ⟨S512, .f32⟩
  | 40 => ⟨S512, .f32⟩
  | 41 => ⟨S8x64, .f32⟩
  | 42 => ⟨S16x2047x1696, .f32⟩
  | 43 => ⟨S_, .i32⟩
  | 44 => ⟨S_, .f32⟩
  | 45 => ⟨S16x2048x1696, .f32⟩
  | 46 => ⟨S16x2048x1696, .f32⟩
  | 47 => ⟨S1x1x1696, .f32⟩
  | 48 => ⟨S16x2048x1696, .f32⟩
  | 49 => ⟨S16x2048x1696, .f32⟩
  | 50 => ⟨S16x2048x1696, .f32⟩
  | 51 => ⟨S16x2048x512, .f32⟩
  | 52 => ⟨S16x2048x512, .f32⟩
  | 53 => ⟨S16x2048x512, .f32⟩
  | 54 => ⟨S16x2048x32, .f32⟩
  | 55 => ⟨S16x2048x32, .f32⟩
  | 56 => ⟨S16x2048x96, .f32⟩
  | 57 => ⟨S16x2048x32, .f32⟩
  | 58 => ⟨S16x2048x512, .f32⟩
  | 59 => ⟨S1x1x512, .f32⟩
  | 60 => ⟨S16x2048x512, .f32⟩
  | 61 => ⟨S16x2048x512, .f32⟩
  | 62 => ⟨S16x2048x512, .f32⟩
  | 63 => ⟨S_, .f32⟩
  | 64 => ⟨S16x2048x512, .f32⟩
  | 65 => ⟨S16x2048x512, .f32⟩
  | 66 => ⟨S16x2048x512, .f32⟩
  | 67 => ⟨S16x2048x512, .f32⟩
  | 68 => ⟨S16x2048x512, .i1⟩
  | 69 => ⟨S16x2048x512, .f32⟩
  | 70 => ⟨S16x2048x512, .f32⟩
  | 71 => ⟨S16x2048x512, .f32⟩
  | 72 => ⟨S16x2048x512, .f32⟩
  | 73 => ⟨S16x2048x512, .f32⟩
  | 74 => ⟨S16x2048x512, .f32⟩
  | 75 => ⟨S16x2048x512, .f32⟩
  | 76 => ⟨S16x2048x512, .f32⟩
  | 77 => ⟨S16x2048x512, .f32⟩
  | 78 => ⟨S_, .f32⟩
  | 79 => ⟨S16x2048x512, .f32⟩
  | 80 => ⟨S16x2048x512, .f32⟩
  | 81 => ⟨S16x2048x512, .f32⟩
  | 82 => ⟨S16x2048x512, .f32⟩
  | 83 => ⟨S16x2048x512, .f32⟩
  | 84 => ⟨S1x1x512, .f32⟩
  | 85 => ⟨S16x2048x512, .f32⟩
  | 86 => ⟨S16x2048x512, .f32⟩
  | 87 => ⟨S16x2048x512, .f32⟩
  | 88 => ⟨S16x2048x512, .f32⟩
  | 89 => ⟨S_, .f32⟩
  | 90 => ⟨S16x2048x512, .f32⟩
  | 91 => ⟨S16x2048x512, .f32⟩
  | 92 => ⟨S_, .f32⟩
  | 93 => ⟨S16x2048x512, .f32⟩
  | 94 => ⟨S16x2048x512, .f32⟩
  | 95 => ⟨S16x2048x96, .f32⟩
  | 96 => ⟨S16x2048x96, .f32⟩
  | 97 => ⟨S_, .f32⟩
  | 98 => ⟨S16x2048x96, .f32⟩
  | 99 => ⟨S16x2048x96, .f32⟩
  | 100 => ⟨S_, .f32⟩
  | 101 => ⟨S16x2048x96, .f32⟩
  | 102 => ⟨S16x2048x96, .f32⟩
  | 103 => ⟨S16x2048x512, .f32⟩
  | 104 => ⟨S1x1x512, .f32⟩
  | 105 => ⟨S16x2048x512, .f32⟩
  | 106 => ⟨S16x2048x512, .f32⟩
  | 107 => ⟨S16x2048x8x64, .f32⟩
  | 108 => ⟨S16x2048x8x64, .f32⟩
  | 109 => ⟨S_, .f32⟩
  | 110 => ⟨S16x2048x8, .f32⟩
  | 111 => ⟨S16x2048x8x1, .f32⟩
  | 112 => ⟨S_, .f32⟩
  | 113 => ⟨S16x2048x8x1, .f32⟩
  | 114 => ⟨S16x2048x8x1, .f32⟩
  | 115 => ⟨S16x2048x8x1, .f32⟩
  | 116 => ⟨S16x2048x8x64, .f32⟩
  | 117 => ⟨S16x2048x8x64, .f32⟩
  | 118 => ⟨S_, .f32⟩
  | 119 => ⟨S16x2048x512, .f32⟩
  | 120 => ⟨S16x2048x512, .f32⟩
  | 121 => ⟨S1x1x512, .f32⟩
  | 122 => ⟨S16x2048x512, .f32⟩
  | 123 => ⟨S16x2048x512, .f32⟩
  | 124 => ⟨S_, .f32⟩
  | 125 => ⟨S16x2048x512, .f32⟩
  | 126 => ⟨S16x2048x512, .f32⟩
  | 127 => ⟨S16x2048x512, .f32⟩
  | _ => ⟨S16x2048x1024, .f32⟩

abbrev hbmTy0_1 (i : Nat) : BufTy := match i % 128 with
  | 0 => ⟨S16x2048x8x64, .f32⟩
  | 1 => ⟨S16x2048x8x64, .f32⟩
  | 2 => ⟨S16x2048x8x64, .f32⟩
  | 3 => ⟨S16x2048x8x64, .f32⟩
  | 4 => ⟨S16x2048x8x64, .f32⟩
  | 5 => ⟨S16x2048x8x64, .f32⟩
  | 6 => ⟨S16x2048x8x64, .f32⟩
  | 7 => ⟨S1x1x8x64, .f32⟩
  | 8 => ⟨S16x2048x8x64, .f32⟩
  | 9 => ⟨S16x2048x8x64, .f32⟩
  | 10 => ⟨S_, .f32⟩
  | 11 => ⟨S16x2048x8, .f32⟩
  | 12 => ⟨S16x2048x8x1, .f32⟩
  | 13 => ⟨S16x2048x8x64, .f32⟩
  | 14 => ⟨S16x2048x8x64, .f32⟩
  | 15 => ⟨S16x32x64x512, .f32⟩
  | 16 => ⟨S_, .f32⟩
  | 17 => ⟨S_, .f32⟩
  | 18 => ⟨S16x32x64x512, .f32⟩
  | 19 => ⟨S16x32x1x512, .f32⟩
  | 20 => ⟨S16x32x64x512, .f32⟩
  | 21 => ⟨S16x32x64x512, .f32⟩
  | 22 => ⟨S16x32x64x512, .f32⟩
  | 23 => ⟨S16x32x64x512, .f32⟩
  | 24 => ⟨S16x32x64x512, .f32⟩
  | 25 => ⟨S16x32x64x512, .f32⟩
  | 26 => ⟨S16x32x64x512, .f32⟩
  | 27 => ⟨S16x32x64x512, .f32⟩
  | 28 => ⟨S16x32x64x512, .f32⟩
  | 29 => ⟨S16x32x64x512, .f32⟩
  | 30 => ⟨S16x32x64x512, .f32⟩
  | 31 => ⟨S16x32x64x512, .f32⟩
  | 32 => ⟨S16x32x64x512, .f32⟩
  | 33 => ⟨S16x32x64x512, .f32⟩
  | 34 => ⟨S16x32x64x512, .f32⟩
  | 35 => ⟨S16x32x64x512, .f32⟩
  | 36 => ⟨S16x32x64x512, .f32⟩
  | 37 => ⟨S16x32x64x512, .f32⟩
  | 38 => ⟨S16x32x64x512, .f32⟩
  | 39 => ⟨S16x32x64x512, .f32⟩
  | 40 => ⟨S16x32x64x512, .f32⟩
  | 41 => ⟨S16x32x64x512, .f32⟩
  | 42 => ⟨S16x32x64x512, .f32⟩
  | 43 => ⟨S16x32x64x512, .f32⟩
  | 44 => ⟨S16x32x64x512, .f32⟩
  | 45 => ⟨S16x32x1x512, .f32⟩
  | 46 => ⟨S32768x512, .f32⟩
  | 47 => ⟨S32768x512, .bf16⟩
  | 48 => ⟨S32768x512, .f32⟩
  | 49 => ⟨S32768x512, .bf16⟩
  | 50 => ⟨S32768x512, .f32⟩
  | 51 => ⟨S32768x512, .bf16⟩
  | 52 => ⟨S32768x512, .f32⟩
  | 53 => ⟨S32768x512, .bf16⟩
  | 54 => ⟨S32768x512, .f32⟩
  | 55 => ⟨S32768x512, .bf16⟩
  | 56 => ⟨S32768x512, .f32⟩
  | 57 => ⟨S32768x512, .bf16⟩
  | 58 => ⟨S32768x512, .f32⟩
  | 59 => ⟨S32768x512, .bf16⟩
  | 60 => ⟨S32768x512, .f32⟩
  | 61 => ⟨S32768x512, .f32⟩
  | 62 => ⟨S512x512, .f32⟩
  | 63 => ⟨S32768x1552, .f32⟩
  | 64 => ⟨S_, .i32⟩
  | 65 => ⟨S_, .f32⟩
  | 66 => ⟨S32768x1664, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v46 : Ref sig .tc := ⟨.hbm, 76, rfl⟩
abbrev main_v47 : Ref sig .tc := ⟨.hbm, 77, rfl⟩
abbrev main_cst_2 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_3 : Ref sig .tc := ⟨.hbm, 89, rfl⟩
abbrev main_v58 : Ref sig .tc := ⟨.hbm, 90, rfl⟩
abbrev main_v59 : Ref sig .tc := ⟨.hbm, 91, rfl⟩
abbrev main_cst_4 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_5 : Ref sig .tc := ⟨.hbm, 97, rfl⟩
abbrev main_v64 : Ref sig .tc := ⟨.hbm, 98, rfl⟩
abbrev main_v65 : Ref sig .tc := ⟨.hbm, 99, rfl⟩
abbrev main_cst_6 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_7 : Ref sig .tc := ⟨.hbm, 109, rfl⟩
abbrev main_v74 : Ref sig .tc := ⟨.hbm, 110, rfl⟩
abbrev main_v75 : Ref sig .tc := ⟨.hbm, 111, rfl⟩
abbrev main_cst_8 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_9 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_10 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_11 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_call2_call0_cst : Ref sig .tc := ⟨.hbm, 144, rfl⟩
abbrev main_call2_call0_v0 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_c_12 : Ref sig .tc := ⟨.hbm, 192, rfl⟩
abbrev main_call3_v0 : Ref sig .tc := ⟨.hbm, 193, rfl⟩
abbrev main_v150 : Ref sig .tc := ⟨.hbm, 194, rfl⟩

abbrev nD : Nat := 1
abbrev τ : Topo := Topo.v7x

variable {F : FTy → Type} [FloatOps F]
-- ==== Proof.Ffn.Row.lean ====
/- The output projection and the SwiGLU block as functions of ONE token's row: the text that both the blocked
   kernel and the whole-array reference are read as (Kernel.lean, Reference.lean in this directory). -/
module

public import Idealize.ShloMosaic.PureOps.Ideal.Laws
public import Idealize.ShloMosaic.Lib.Pointwise

@[expose] public section

noncomputable section

namespace Cert.FfnRow

open Idealize.ShloMosaic
open scoped BigOperators

/-- The residual stream after the mixers: the token's row plus its mixer output through the output projection. -/
def resid (x mix : Fin 1024 → EReal) (wo : Fin 1024 → Fin 1024 → EReal) (c : Fin 1024) : EReal :=
  x c + ∑ k, mix k * wo k c

/-- RMS normalisation of a row with gain `g`: the mean square over 1024 entries plus the printed epsilon. -/
def rms (h g : Fin 1024 → EReal) (c : Fin 1024) : EReal :=
  h c * Ideal.rsqrt (Ideal.div (∑ k, h k * h k) (Ideal.ofBits .f32 0x44800000#32) + Ideal.ofBits .f32 0x358637BD#32) * g c

/-- One hidden unit of the gated block: `silu(n·gate) * (n·up)`. -/
def hidden (n : Fin 1024 → EReal) (wg wu : Fin 1024 → Fin 2816 → EReal) (j : Fin 2816) : EReal :=
  (∑ k, n k * wg k j) * Ideal.div 1 (1 + Ideal.exp (-∑ k, n k * wg k j)) * ∑ k, n k * wu k j

/-- The block's result for one token, after the final normalisation. -/
def out (h g2 : Fin 1024 → EReal) (wg wu : Fin 1024 → Fin 2816 → EReal) (wd : Fin 2816 → Fin 1024 → EReal)
    (gf : Fin 1024 → EReal) : Fin 1024 → EReal :=
  rms (fun c => h c + ∑ j, hidden (rms h g2) wg wu j * wd j c) gf

/-- The result for token `(b, t)` of the launched arrays. -/
def token (x mix : (⟨3, ![16, 2048, 1024]⟩ : Shape).Idx → EReal) (wo : (⟨3, ![1, 1024, 1024]⟩ : Shape).Idx → EReal)
    (g2 : (⟨2, ![1, 1024]⟩ : Shape).Idx → EReal) (wg wu : (⟨3, ![1, 1024, 2816]⟩ : Shape).Idx → EReal)
    (wd : (⟨3, ![1, 2816, 1024]⟩ : Shape).Idx → EReal) (gf : (⟨1, ![1024]⟩ : Shape).Idx → EReal)
    (b : Fin 16) (t : Fin 2048) : Fin 1024 → EReal :=
  out (resid (fun k => x (ix3 b t k)) (fun k => mix (ix3 b t k)) (fun k c => wo (ix3 0 k c))) (fun k => g2 (ix2 0 k))
    (fun k j => wg (ix3 0 k j)) (fun k j => wu (ix3 0 k j)) (fun j c => wd (ix3 0 j c)) (fun k => gf (ix1 k))

/-- The batch row and the position of row `i` of the flattened `32768 × 1024` array. -/
abbrev batchOf (i : Fin 32768) : Fin 16 := ⟨i / 2048, by omega⟩
abbrev posOf (i : Fin 32768) : Fin 2048 := ⟨i % 2048, Nat.mod_lt _ (by omega)⟩

end Cert.FfnRow

end
-- ==== Proof.Ffn.Kernel.lean ====
/- What the blocked kernel's result array holds after the run, at an index: the row function of Row.lean at that
   token (`arr_apply`). The payload of one grid point is read at an index, then the blocks are placed in the array. -/
module

public import proofs.«01_k».proof.Proof.Ffn.Row
public import proofs.«01_k».proof.Proof.Gen.FfnKernelIdeal.Value
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.FfnKernelIdeal.RefValue

open Cert.FfnKernelIdeal Cert.FfnKernelIdeal.Gen Idealize.ShloMosaic Idealize.ShloMosaic.TcCoe Idealize.SL.Sem
open Idealize.ShloMosaic.Pipeline (Dat)
open scoped BigOperators

/-- The residual stream of a block of tokens, at an entry. -/
theorem pay2_apply (v0 : FVec Ideal S1024x1024 .f32) (v2 v4 : FVec Ideal S1024x1024 .bf16) (r c : Fin 1024) :
    k0_pay2 (F := Ideal) v0 v2 v4 (ix2 r c)
      = FfnRow.resid (fun k => v0 (ix2 r k)) (fun k => v2 (ix2 r k)) (fun k l => v4 (ix2 k l)) c := by
  unfold FfnRow.resid
  pointwise [k0_pay2]

/-- The hidden units of a block of tokens, at an entry. -/
theorem pay3_apply (v0 : FVec Ideal S1024x1024 .f32) (v2 v4 : FVec Ideal S1024x1024 .bf16) (v18 : FVec Ideal S1x1024 .f32)
    (v23 v26 : FVec Ideal S1024x2816 .bf16) (r : Fin 1024) (j : Fin 2816) :
    k0_pay3 (F := Ideal) v0 v2 v4 v18 v23 v26 (ix2 r j)
      = FfnRow.hidden (FfnRow.rms (fun k => k0_pay2 (F := Ideal) v0 v2 v4 (ix2 r k)) (fun k => v18 (ix2 0 k)))
          (fun k l => v23 (ix2 k l)) (fun k l => v26 (ix2 k l)) j := by
  unfold FfnRow.hidden FfnRow.rms
  pointwise [k0_pay3]
  rw [zero_sub]

/-- The last normalisation of a block of tokens, at an entry. -/
theorem pay1_apply (v7 : FVec Ideal S1024x1024 .f32) (v37 : FVec Ideal S1024x2816 .f32) (v39 : FVec Ideal S2816x1024 .bf16)
    (v53 : FVec Ideal S1x1024 .f32) (r c : Fin 1024) :
    k0_pay1 (F := Ideal) v7 v37 v39 v53 (ix2 r c)
      = FfnRow.rms (fun c => v7 (ix2 r c) + ∑ j, v37 (ix2 r j) * v39 (ix2 j c)) (fun k => v53 (ix2 0 k)) c := by
  unfold FfnRow.rms
  pointwise [k0_pay1]

variable (m : (ℓ : Loc nD τ sig) → Buf (Elt Ideal) ℓ) (ρ : Dev nD → PrngReg)

/-- The result array as one function of the launched arrays: row `i` is token `(i / 2048, i % 2048)`. -/
def result (c : Dev nD) : S32768x1024.Idx → EReal := fun i =>
  FfnRow.token (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
    (FfnRow.batchOf (i 0)) (FfnRow.posOf (i 0)) (i 1)

/-- Which block each window is on at a point: the token windows at block `t` of the rows, the weights at their one block. -/
theorem index_facts : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val, 0] :=
  (by decide +kernel : ∀ t : Fin grid0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val, 0])

/-- The row of the flattened arrays that row `r` of point `t`'s block is. -/
abbrev rowAt (t : Fin cfg0.N) (r : Fin 1024) : Fin 32768 :=
  ⟨t.val * 1024 + r.val, by have := t.isLt; have h : cfg0.N = 32 := N_0; omega⟩

/-- Each window's array as the host lines before the launch leave it: the launched array, reshaped. -/
theorem arr_x (c : Dev nD) (i : Fin 32768) (k : Fin 1024) : V m c main_v0 (ix2 i k) = m ((c : Thread nD τ).loc main_arg0) (ix3 (FfnRow.batchOf i) (FfnRow.posOf i) k) := by
  unfold V; after_reads_at
theorem arr_mix (c : Dev nD) (i : Fin 32768) (k : Fin 1024) : V m c main_v1 (ix2 i k) = m ((c : Thread nD τ).loc main_arg1) (ix3 (FfnRow.batchOf i) (FfnRow.posOf i) k) := by
  unfold V; after_reads_at
/-- The weights likewise (their cast to bf16 is the identity here). -/
theorem arr_wo (c : Dev nD) (k : Fin 1024) (l : Fin 1024) : V m c main_v3 (ix2 k l) = m ((c : Thread nD τ).loc main_arg2) (ix3 0 k l) := by
  unfold V; after_reads_at
theorem arr_g2 (c : Dev nD) (z : Fin 1) (k : Fin 1024) : V m c main_v5 (ix2 z k) = m ((c : Thread nD τ).loc main_arg3) (ix2 0 k) := by
  unfold V; after_reads_at
theorem arr_wg (c : Dev nD) (k : Fin 1024) (l : Fin 2816) : V m c main_v7 (ix2 k l) = m ((c : Thread nD τ).loc main_arg4) (ix3 0 k l) := by
  unfold V; after_reads_at
theorem arr_wu (c : Dev nD) (k : Fin 1024) (l : Fin 2816) : V m c main_v9 (ix2 k l) = m ((c : Thread nD τ).loc main_arg5) (ix3 0 k l) := by
  unfold V; after_reads_at
theorem arr_wd (c : Dev nD) (k : Fin 2816) (l : Fin 1024) : V m c main_v11 (ix2 k l) = m ((c : Thread nD τ).loc main_arg6) (ix3 0 k l) := by
  unfold V; after_reads_at
theorem arr_gf (c : Dev nD) (z : Fin 1) (k : Fin 1024) : V m c main_v12 (ix2 z k) = m ((c : Thread nD τ).loc main_arg7) (ix1 k) := by
  unfold V; after_reads_at

/-- Each window's block at a point, read off its array. -/
theorem blk_x (c : Dev nD) (t : Fin cfg0.N) (r k : Fin 1024) : iblk m c 0 t (ix2 r k)
    = m ((c : Thread nD τ).loc main_arg0) (ix3 (FfnRow.batchOf (rowAt t r)) (FfnRow.posOf (rowAt t r)) k) := by
  rw [← arr_x m]; blk_ext [iblk, index_facts t]
theorem blk_mix (c : Dev nD) (t : Fin cfg0.N) (r k : Fin 1024) : iblk m c 1 t (ix2 r k)
    = m ((c : Thread nD τ).loc main_arg1) (ix3 (FfnRow.batchOf (rowAt t r)) (FfnRow.posOf (rowAt t r)) k) := by
  rw [← arr_mix m]; blk_ext [iblk, index_facts t]
theorem blk_wo (c : Dev nD) (t : Fin cfg0.N) (k : Fin 1024) (l : Fin 1024) : iblk m c 2 t (ix2 k l)
    = m ((c : Thread nD τ).loc main_arg2) (ix3 0 k l) := by
  rw [← arr_wo m]; blk_ext [iblk, index_facts t]
theorem blk_g2 (c : Dev nD) (t : Fin cfg0.N) (k : Fin 1024) : iblk m c 3 t (ix2 0 k)
    = m ((c : Thread nD τ).loc main_arg3) (ix2 0 k) := by
  rw [← arr_g2 m c 0]; blk_ext [iblk, index_facts t]
theorem blk_wg (c : Dev nD) (t : Fin cfg0.N) (k : Fin 1024) (l : Fin 2816) : iblk m c 4 t (ix2 k l)
    = m ((c : Thread nD τ).loc main_arg4) (ix3 0 k l) := by
  rw [← arr_wg m]; blk_ext [iblk, index_facts t]
theorem blk_wu (c : Dev nD) (t : Fin cfg0.N) (k : Fin 1024) (l : Fin 2816) : iblk m c 5 t (ix2 k l)
    = m ((c : Thread nD τ).loc main_arg5) (ix3 0 k l) := by
  rw [← arr_wu m]; blk_ext [iblk, index_facts t]
theorem blk_wd (c : Dev nD) (t : Fin cfg0.N) (k : Fin 2816) (l : Fin 1024) : iblk m c 6 t (ix2 k l)
    = m ((c : Thread nD τ).loc main_arg6) (ix3 0 k l) := by
  rw [← arr_wd m]; blk_ext [iblk, index_facts t]
theorem blk_gf (c : Dev nD) (t : Fin cfg0.N) (k : Fin 1024) : iblk m c 7 t (ix2 0 k)
    = m ((c : Thread nD τ).loc main_arg7) (ix1 k) := by
  rw [← arr_gf m c 0]; blk_ext [iblk, index_facts t]

/-- Where point `t`'s block of the result lies in the array. -/
theorem place (t : Fin cfg0.N) (r k : Fin 1024) :
    (((View.whole main_v13).slice (win0_8.rect t)).emb (ix2 r k) : S32768x1024.Idx) = ix2 (rowAt t r) k := by
  blk_ext [index_facts t]

/-- The result array after the run is `result`: every point's block holds the row function of its tokens. -/
theorem arr_eq (c : Dev nD) : (dats m 0 c).arrAt 8 cfg0.N = result m c := by
  refine (dats m 0 c).arrAt_eq_of_covers 8 _ (by decide +kernel) fun t hf y => ?_
  blk_simp
  rw [after0_8]
  frame_out
  idx_vars y
  rw [place, pay1_apply]
  simp only [pay2_apply, pay3_apply, blk_x, blk_mix, blk_wo, blk_g2, blk_wg, blk_wu, blk_wd, blk_gf]
  rfl

/-- The run of the program at the ideal instance, with its result read. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (arr_eq m c), (h c).2⟩) (Value.run_blocks m ρ)

end Cert.FfnKernelIdeal.RefValue

end
-- ==== Proof.Ffn.Reference.lean ====
/- What the whole-array reference's result holds, at an index: the row function of Row.lean at that token. -/
module

public import proofs.«01_k».proof.Proof.Ffn.Row
public import proofs.«01_k».proof.Proof.Gen.FfnReferenceIdeal.Read
public import Idealize.ShloMosaic.Lib.Pointwise

@[expose] public section

set_option maxRecDepth 16384

noncomputable section

namespace Cert.FfnReferenceIdeal.RefValue

open Cert.FfnReferenceIdeal Cert.FfnReferenceIdeal.Gen Cert.FfnReferenceIdeal.Read Idealize.ShloMosaic
open scoped BigOperators

variable (x0 : FVec Ideal S16x2048x1024 .f32) (x1 : FVec Ideal S16x2048x1024 .bf16) (x2 : FVec Ideal S1x1024x1024 .f32)
  (x3 : FVec Ideal S1x1024 .f32) (x4 x5 : FVec Ideal S1x1024x2816 .f32) (x6 : FVec Ideal S1x2816x1024 .f32)
  (x7 : FVec Ideal S1024 .f32) (b : Fin 16) (t : Fin 2048)

/-- The residual stream at token `(b, t)`. -/
theorem resid_apply (c : Fin 1024) : (val_main_v3 (F := Ideal) x0 x1 x2 (ix3 b t c) : EReal)
    = FfnRow.resid (fun k => x0 (ix3 b t k)) (fun k => x1 (ix3 b t k)) (fun k c => x2 (ix3 0 k c)) c := by
  unfold FfnRow.resid
  pointwise [val_main_v3, val_main_v2, val_main_v1, val_main_v0]

/-- The first normalisation at token `(b, t)`. -/
theorem norm_apply (c : Fin 1024) : (val_main_v17 (F := Ideal) x0 x1 x2 x3 (ix3 b t c) : EReal)
    = FfnRow.rms (fun k => val_main_v3 (F := Ideal) x0 x1 x2 (ix3 b t k)) (fun k => x3 (ix2 0 k)) c := by
  unfold FfnRow.rms
  pointwise [val_main_v17, val_main_v16, val_main_v15, val_main_v4, val_main_v14, val_main_v13, val_main_v12, val_main_v11,
    val_main_v10, val_main_cst_1, val_main_v9, val_main_v8, val_main_cst_0, val_main_v7, val_main_v6, val_main_cst, val_main_v5]

/-- A hidden unit at token `(b, t)`. -/
theorem hidden_apply (j : Fin 2816) : (val_main_v23 (F := Ideal) x0 x1 x2 x3 x4 x5 (ix3 b t j) : EReal)
    = FfnRow.hidden (fun k => val_main_v17 (F := Ideal) x0 x1 x2 x3 (ix3 b t k)) (fun k j => x4 (ix3 0 k j))
        (fun k j => x5 (ix3 0 k j)) j := by
  unfold FfnRow.hidden
  pointwise [val_main_v23, val_main_v22, val_main_v21, val_main_v20, val_main_call0_v5, val_main_call0_v4, val_main_call0_cst_0,
    val_main_call0_v3, val_main_call0_v2, val_main_call0_cst, val_main_call0_v1, val_main_call0_v0, val_main_v19, val_main_v18]

/-- The last normalisation at token `(b, t)`. -/
theorem last_apply (c : Fin 1024) : (val_main_v39 (F := Ideal) x0 x1 x2 x3 x4 x5 x6 x7 (ix3 b t c) : EReal)
    = FfnRow.rms (fun c => val_main_v3 (F := Ideal) x0 x1 x2 (ix3 b t c)
        + ∑ j, val_main_v23 (F := Ideal) x0 x1 x2 x3 x4 x5 (ix3 b t j) * x6 (ix3 0 j c)) (fun k => x7 (ix1 k)) c := by
  unfold FfnRow.rms
  pointwise [val_main_v39, val_main_v38, val_main_v37, val_main_v36, val_main_v35, val_main_v34, val_main_v33,
    val_main_v32, val_main_cst_4, val_main_v31, val_main_v30, val_main_cst_3, val_main_v29, val_main_v28, val_main_cst_2,
    val_main_v27, val_main_v26, val_main_v25, val_main_v24]

/-- The reference's result at row `i` of the flattened array. -/
theorem result_apply (i : Fin 32768) (c : Fin 1024) :
    (val_main_v40 (F := Ideal) x0 x1 x2 x3 x4 x5 x6 x7 (ix2 i c) : EReal)
      = FfnRow.token x0 x1 x2 x3 x4 x5 x6 x7 (FfnRow.batchOf i) (FfnRow.posOf i) c := by
  have h : (val_main_v40 (F := Ideal) x0 x1 x2 x3 x4 x5 x6 x7 (ix2 i c) : EReal)
      = val_main_v39 (F := Ideal) x0 x1 x2 x3 x4 x5 x6 x7 (ix3 (FfnRow.batchOf i) (FfnRow.posOf i) c) := by
    pointwise [val_main_v40]
  rw [h, last_apply]
  simp only [hidden_apply, norm_apply, resid_apply]
  rfl

end Cert.FfnReferenceIdeal.RefValue

end
-- ==== Proof.Ffn.Claims.lean ====
/- The claims about the output projection and SwiGLU block: the frames, and that kernel and reference leave the same
   array. Both arrays are read at an index as the row function of Row.lean. -/
module

public import proofs.«01_k».proof.Defs
public import proofs.«01_k».proof.Proof.Ffn.Kernel
public import proofs.«01_k».proof.Proof.Ffn.Reference
public import proofs.«01_k».proof.Proof.Gen.FfnKernel.Frame
public import Idealize.ShloMosaic.Lib.Quiescent

@[expose] public section

set_option maxRecDepth 16384

noncomputable section

namespace Cert.Proof.Ffn

open Idealize.ShloMosaic Idealize.ShloMosaic.TcCoe Idealize.SL.Sem

/-- The frames of the kernel at the machine's words and at the extended reals. -/
theorem frame_kernel : Cert.quiescent_FfnKernel := fun m ρ _ => Cert.FfnKernel.Gen.frame m ρ
theorem frame_kernelIdeal : Cert.quiescent_FfnKernelIdeal := fun m ρ _ => Cert.FfnKernelIdeal.Gen.frame m ρ

/-- The reference keeps its arguments, and declares no semaphore. -/
theorem frame_reference : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

/-- Kernel and reference leave the same array. -/
theorem algebraic : Cert.algebraic_FfnKernelIdeal_FfnReferenceIdeal := by
  intro m ρ m' ρ' _ hagree
  refine ⟨fun c => Cert.FfnKernelIdeal.RefValue.result m c, Cert.FfnKernelIdeal.RefValue.run m ρ, ?_⟩
  refine (θ_run Cert.FfnReferenceIdeal.defs _ _).mono (fun r h c => ⟨?_, (h c).2⟩)
    (Cert.FfnReferenceIdeal.Value.run (F := Ideal) m' ρ')
  obtain ⟨e0, e1, e2, e3, e4, e5, e6, e7⟩ := hagree c
  rw [(h c).1, Cert.FfnReferenceIdeal.Read.val_main_v40_eq, e0, e1, e2, e3, e4, e5, e6, e7]
  funext i
  obtain ⟨a, b, rfl⟩ : ∃ (a : Fin 32768) (b : Fin 1024), i = ix2 a b := ⟨i 0, i 1, eq_ix2 i⟩
  exact Cert.FfnReferenceIdeal.RefValue.result_apply _ _ _ _ _ _ _ _ a b

end Cert.Proof.Ffn

end
-- ==== Proof.Prep.Sums.lean ====
/- Facts about extended reals and finite sums that the input projection's two texts differ by: the two forms of the
   log decay, what a finite log decay allows, sums over zero-padded rows, and sums over blocks of 64. -/
module

public import Idealize.ShloMosaic.Lib.Pointwise

@[expose] public section

set_option maxRecDepth 16384

noncomputable section

namespace Cert.PrepSums

open Idealize.ShloMosaic
open scoped BigOperators

/-- The logistic function, as a quotient. -/
def sigm (x : EReal) : EReal := Ideal.div 1 (1 + Ideal.exp (-x))

/-- The float pattern of one half denotes one half. -/
theorem half_eq : Ideal.ofBits .f32 0x3F000000#32 = (((1 : ℝ) / 2 : ℝ) : EReal) := by
  have h1 : (0x3F000000#32).extractLsb' 31 1 = 0#1 := by decide
  have h2 : (0x3F000000#32).extractLsb' 23 8 = 126#8 := by decide
  have h3 : (0x3F000000#32).extractLsb' 0 23 = 0#23 := by decide
  simp only [Ideal.ofBits, Ideal.ieee, h1, h2, h3]
  norm_num

/-- The float pattern of minus one half denotes minus one half. -/
theorem neg_half_eq : Ideal.ofBits .f32 0xBF000000#32 = ((-((1 : ℝ) / 2) : ℝ) : EReal) := by
  have h1 : (0xBF000000#32).extractLsb' 31 1 = 1#1 := by decide
  have h2 : (0xBF000000#32).extractLsb' 23 8 = 126#8 := by decide
  have h3 : (0xBF000000#32).extractLsb' 0 23 = 0#23 := by decide
  simp only [Ideal.ofBits, Ideal.ieee, h1, h2, h3]
  norm_num

theorem exp_real (x : ℝ) : Ideal.exp (x : EReal) = (Real.exp x : ℝ) := rfl

theorem div_real (x y : ℝ) (h : y ≠ 0) : Ideal.div (x : EReal) (y : EReal) = ((x / y : ℝ) : EReal) := by
  unfold Ideal.div
  rw [if_neg (by exact_mod_cast h), div_eq_mul_inv]
  norm_cast

theorem sigm_real (u : ℝ) : sigm (u : EReal) = ((1 / (1 + Real.exp (-u)) : ℝ) : EReal) := by
  have h : (1 : EReal) + Ideal.exp (-(u : EReal)) = ((1 + Real.exp (-u) : ℝ) : EReal) := by
    rw [← EReal.coe_neg, exp_real]; norm_cast
  unfold sigm
  rw [h, ← EReal.coe_one, div_real _ _ (by positivity)]

theorem sigm_top : sigm ⊤ = 1 := by
  have : Ideal.exp (⊥ : EReal) = 0 := rfl
  unfold sigm
  rw [EReal.neg_top, this, add_zero, ← EReal.coe_one, div_real _ _ one_ne_zero, div_one]

theorem sigm_bot : sigm ⊥ = 0 := by
  have : Ideal.exp (⊤ : EReal) = ⊤ := rfl
  unfold sigm
  rw [EReal.neg_bot, this]
  have h : (1 : EReal) + ⊤ = ⊤ := by rw [← EReal.coe_one, EReal.coe_add_top]
  rw [h]
  unfold Ideal.div
  rw [if_neg EReal.top_ne_zero, EReal.inv_top, mul_zero]

/-- The logistic function is finite everywhere. -/
theorem sigm_finite (u : EReal) : ∃ r : ℝ, sigm u = (r : EReal) := by
  induction u with
  | bot => exact ⟨0, sigm_bot⟩
  | top => exact ⟨1, sigm_top⟩
  | coe u => exact ⟨_, sigm_real u⟩

/-- The kernel's log decay. -/
def logDecay (u : EReal) : EReal := sigm u * -Ideal.exp (Ideal.ofBits .f32 0xBF000000#32)

theorem logDecay_finite (u : EReal) : ∃ r : ℝ, logDecay u = (r : EReal) := by
  obtain ⟨r, h⟩ := sigm_finite u
  refine ⟨r * -Real.exp (-(1 / 2)), ?_⟩
  unfold logDecay
  rw [h, neg_half_eq, exp_real, ← EReal.coe_neg, ← EReal.coe_mul]

/-- `softplus x = max x 0 + log (1 + exp (-|x|))` on the reals. -/
theorem softplus_real (x : ℝ) : max (x : EReal) 0 + Ideal.log1p (Ideal.exp (-FloatOps.absf (F := Ideal) (φ := .f32) (x : EReal)))
    = ((Real.log (1 + Real.exp x) : ℝ) : EReal) := by
  have habs : FloatOps.absf (F := Ideal) (φ := .f32) (x : EReal) = ((|x| : ℝ) : EReal) := by
    show max (x : EReal) (-(x : EReal)) = _
    rw [← EReal.coe_neg, abs_eq_max_neg]
    exact (EReal.coe_strictMono.monotone.map_max).symm
  have hmax : max (x : EReal) 0 = ((max x 0 : ℝ) : EReal) := by
    rw [← EReal.coe_zero]; exact (EReal.coe_strictMono.monotone.map_max).symm
  have hlog : ∀ y : ℝ, 0 < y → Ideal.log (y : EReal) = ((Real.log y : ℝ) : EReal) := fun y hy => by
    show (if y ≤ 0 then (⊥ : EReal) else _) = _
    rw [if_neg (not_le.mpr hy)]
  have h1 : (1 : EReal) + ((Real.exp (-|x|) : ℝ) : EReal) = ((1 + Real.exp (-|x|) : ℝ) : EReal) := by norm_cast
  rw [habs, hmax, ← EReal.coe_neg, exp_real, Ideal.log1p, h1, hlog _ (by positivity), ← EReal.coe_add]
  congr 1
  have hp : 0 < 1 + Real.exp (-|x|) := by positivity
  rcases le_total 0 x with hx | hx
  · rw [max_eq_left hx, abs_of_nonneg hx, ← Real.log_exp x, ← Real.log_mul (by positivity) (by positivity), Real.log_exp,
      mul_add, mul_one, ← Real.exp_add, add_neg_cancel, Real.exp_zero, add_comm]
  · rw [max_eq_right hx, abs_of_nonpos hx, neg_neg, zero_add]

/-- The reference's log decay, `-exp (-softplus (-u) - 1/2)`, is the kernel's. -/
theorem logDecay_ref (u : EReal) :
    -Ideal.exp (-(max (-u) 0 + Ideal.log1p (Ideal.exp (-FloatOps.absf (F := Ideal) (φ := .f32) (-u)))) - Ideal.ofBits .f32 0x3F000000#32)
      = logDecay u := by
  unfold logDecay
  rw [half_eq, neg_half_eq, exp_real]
  induction u with
  | bot =>
    have h : FloatOps.absf (F := Ideal) (φ := .f32) (⊤ : EReal) = ⊤ := by show max (⊤ : EReal) (-⊤) = ⊤; simp
    have hl : Ideal.log1p (Ideal.exp (⊥ : EReal)) = 0 := by
      show Ideal.log (1 + 0) = 0
      rw [add_zero, ← EReal.coe_one]
      show (if (1 : ℝ) ≤ 0 then (⊥ : EReal) else _) = _
      rw [if_neg (by norm_num), Real.log_one, EReal.coe_zero]
    rw [EReal.neg_bot, h, EReal.neg_top, hl, sigm_bot, zero_mul, add_zero, max_eq_left le_top, EReal.neg_top, EReal.bot_sub]
    show -(0 : EReal) = 0
    exact neg_zero
  | top =>
    have h : FloatOps.absf (F := Ideal) (φ := .f32) (⊥ : EReal) = ⊤ := by show max (⊥ : EReal) (-⊥) = ⊤; simp
    have hl : Ideal.log1p (Ideal.exp (⊥ : EReal)) = 0 := by
      show Ideal.log (1 + 0) = 0
      rw [add_zero, ← EReal.coe_one]
      show (if (1 : ℝ) ≤ 0 then (⊥ : EReal) else _) = _
      rw [if_neg (by norm_num), Real.log_one, EReal.coe_zero]
    rw [EReal.neg_top, h, EReal.neg_top, hl, sigm_top, one_mul, add_zero, max_eq_right bot_le, neg_zero, zero_sub,
      ← EReal.coe_neg, exp_real]
  | coe u =>
    rw [← EReal.coe_neg u, softplus_real, sigm_real, ← EReal.coe_neg, ← EReal.coe_sub, exp_real, ← EReal.coe_neg,
      ← EReal.coe_neg, ← EReal.coe_mul]
    congr 1
    rw [Real.exp_sub, Real.exp_neg (Real.log _), Real.exp_log (by positivity), Real.exp_neg (1 / 2)]
    ring

/-- A sum of finitely many finite terms is finite. -/
theorem sum_finite {n : Nat} (f : Fin n → EReal) (h : ∀ i, ∃ r : ℝ, f i = (r : EReal)) : ∃ r : ℝ, ∑ i, f i = (r : EReal) := by
  choose g hg using h
  refine ⟨∑ i, g i, ?_⟩
  simp only [hg]
  induction n with
  | zero => simp
  | succ n ih => rw [Fin.sum_univ_succ, Fin.sum_univ_succ, EReal.coe_add,
      ih (fun i => (g i.succ : EReal)) (fun i => g i.succ) fun _ => rfl]

/-- `exp (L - b) = exp (-b) * exp L` where both are finite. -/
theorem exp_sub (L b : EReal) (hL : ∃ r : ℝ, L = (r : EReal)) (hb : ∃ r : ℝ, b = (r : EReal)) :
    Ideal.exp (L - b) = Ideal.exp (-b) * Ideal.exp L := by
  obtain ⟨l, rfl⟩ := hL
  obtain ⟨c, rfl⟩ := hb
  rw [← EReal.coe_sub, ← EReal.coe_neg, exp_real, exp_real, exp_real, ← EReal.coe_mul, ← Real.exp_add]
  congr 2; ring

/-- A finite number minus itself is zero. -/
theorem sub_self_finite (x : EReal) (h : ∃ r : ℝ, x = (r : EReal)) : x - x = 0 := by
  obtain ⟨r, rfl⟩ := h
  rw [← EReal.coe_sub, sub_self, EReal.coe_zero]

/-- A product with rows that are zero outside `[o, o + n)` is the product with the rows inside. -/
theorem padded_sum {n m : Nat} (o : Nat) (ho : o + n ≤ m) (f g : Fin m → EReal) (w : Fin n → EReal)
    (hin : ∀ i : Fin n, g ⟨o + i, by omega⟩ = w i) (hout : ∀ k : Fin m, (k.val < o ∨ o + n ≤ k.val) → g k = 0) :
    ∑ k, f k * g k = ∑ i : Fin n, f ⟨o + i, by omega⟩ * w i := by
  symm
  refine Finset.sum_of_injOn (fun i : Fin n => (⟨o + i, by omega⟩ : Fin m)) ?_ ?_ ?_ ?_
  · intro a _ b _ h
    have := congrArg Fin.val h
    exact Fin.ext (by simpa using this)
  · intro i _; simp
  · intro k _ hk
    rw [hout k, mul_zero]
    by_contra hc
    push Not at hc
    exact hk ⟨⟨k.val - o, by omega⟩, by simp, Fin.ext (by simp only; omega)⟩
  · intro i _
    rw [hin]

/-- The sum over one block of 64 of a row of `64 n`. -/
theorem block_sum {n : Nat} (c : Nat) (hc : 64 * c + 64 ≤ n) (f g : Fin n → EReal)
    (hg : ∀ k : Fin n, g k = if k.val / 64 = c then 1 else 0) :
    ∑ k, f k * g k = ∑ e : Fin 64, f ⟨64 * c + e, by omega⟩ := by
  rw [padded_sum (64 * c) hc f g (fun _ => 1) (fun i => by rw [hg, if_pos (by show (64 * c + i.val) / 64 = c; omega)])
    (fun k hk => by rw [hg, if_neg (by omega)])]
  simp only [mul_one]

/-- The running sum within one block of 64 of a row of `n`: the product with the block-triangular ones. -/
theorem block_prefix_sum {n : Nat} (r : Fin n) (hc : 64 * (r.val / 64) + 64 ≤ n) (f g : Fin n → EReal)
    (hg : ∀ k : Fin n, g k = if k.val ≤ r.val ∧ k.val / 64 = r.val / 64 then 1 else 0) :
    ∑ k, g k * f k = ∑ e : Fin 64, if e.val ≤ r.val % 64 then f ⟨64 * (r.val / 64) + e, by omega⟩ else 0 := by
  simp only [mul_comm (g _)]
  rw [padded_sum (64 * (r.val / 64)) hc f g (fun e => if e.val ≤ r.val % 64 then 1 else 0)
    (fun e => by
      rw [hg]
      refine if_congr ?_ rfl rfl
      show 64 * (r.val / 64) + e.val ≤ r.val ∧ (64 * (r.val / 64) + e.val) / 64 = r.val / 64 ↔ _
      omega)
    (fun k hk => by rw [hg, if_neg (by omega)])]
  refine Finset.sum_congr rfl fun e _ => ?_
  split <;> simp

/-- A left fold of additions is the initial value plus the sum. -/
theorem foldl_add {n : Nat} (f : Fin n → EReal) (v : EReal) :
    (List.finRange n).foldl (fun r i => r + f i) v = v + ∑ i, f i := by
  have h : ∀ (l : List (Fin n)) (v : EReal), l.foldl (fun r i => r + f i) v = v + (l.map f).sum := by
    intro l
    induction l with
    | nil => intro v; simp
    | cons a l ih => intro v; simp only [List.foldl_cons, List.map_cons, List.sum_cons, ih, add_assoc]
  rw [h, Fin.sum_univ_def]

/-- A window of 64 that ends at position `s`, zero where it starts before the row, is the running sum. -/
theorem window_sum (s : Fin 64) (f : Fin 64 → EReal) (w : Fin 64 → EReal)
    (hw : ∀ q : Fin 64, w q = if h : 63 ≤ s.val + q.val then f ⟨s.val + q.val - 63, by omega⟩ else 0) :
    ∑ q, w q = ∑ e : Fin 64, if e.val ≤ s.val then f e else 0 := by
  refine Fintype.sum_equiv (Equiv.addRight (s + 1)) _ _ fun q => ?_
  have hv : ((Equiv.addRight (s + 1)) q).val = (q.val + s.val + 1) % 64 := by
    show (q + (s + 1)).val = _
    rw [Fin.val_add, Fin.val_add]
    show (q.val + (s.val + 1) % 64) % 64 = _
    omega
  rw [hw]
  by_cases h : 63 ≤ s.val + q.val
  · rw [dif_pos h, if_pos (by rw [hv]; omega)]
    exact congrArg f (Fin.ext (by rw [hv]; simp only; omega))
  · rw [dif_neg h, if_neg (by rw [hv]; omega)]

end Cert.PrepSums

end
-- ==== Proof.Prep.Row.lean ====
/- What the input projection computes for one token and one channel, as functions on the extended reals of the launched
   arrays. Both the tiled kernel and the whole-array reference are read as these functions; `b` is the batch row, `t` the
   position in the sequence. -/
module

public import proofs.«01_k».proof.Proof.Prep.Sums
public import Idealize.ShloMosaic.Lib.Pointwise

@[expose] public section

set_option maxRecDepth 16384

noncomputable section

namespace Cert.PrepRow

open Idealize.ShloMosaic Cert.PrepSums
open scoped BigOperators

/-- The launched arrays, by index. -/
structure Inputs where
  x : Fin 16 → Fin 2048 → Fin 1024 → EReal
  g : Fin 1024 → EReal
  w : Fin 1024 → Fin 3248 → EReal
  mu : Fin 1696 → EReal
  db : Fin 512 → EReal
  du : Fin 32 → Fin 512 → EReal
  ib : Fin 512 → EReal
  iu : Fin 32 → Fin 512 → EReal
  gu : Fin 96 → Fin 512 → EReal
  kk : Fin 512 → EReal
  ka : Fin 512 → EReal
  rk : Fin 512 → EReal

/-- The sum of a row of channels over the head of 64 that channel `j` is in. -/
def head (f : Fin 512 → EReal) (j : Fin 512) : EReal := ∑ e : Fin 64, f ⟨64 * (j.val / 64) + e.val, by omega⟩

/-- RMS normalisation of a row with gain `g`: the mean square over 1024 entries plus the printed epsilon. -/
def rms (h g : Fin 1024 → EReal) (c : Fin 1024) : EReal :=
  h c * Ideal.rsqrt (Ideal.div (∑ k, h k * h k) (Ideal.ofBits .f32 0x44800000#32) + Ideal.ofBits .f32 0x358637BD#32) * g c

/-- The token shift: a channel moved towards the previous token's by the share `mu`. -/
def shift (cur prev mu : EReal) : EReal := cur + (prev - cur) * mu

/-- A head's key direction: the row scaled to unit length, the squared length at least the printed bound. -/
def unit (q : Fin 512 → EReal) (j : Fin 512) : EReal :=
  q j * Ideal.rsqrt (max (head (fun i => q i * q i) j) (Ideal.ofBits .f32 0x179ABE15#32))

/-- The key a token writes: `k * (1 + (a - 1) * k_a)`. -/
def writeKey (k a ka : EReal) : EReal := k * (1 + (a - 1) * ka)

/-- The batch row and the position of row `i` of the flattened tokens; those of row `i` of the flattened chunks. -/
abbrev batchOf (i : Fin 32768) : Fin 16 := ⟨i.val / 2048, by omega⟩
abbrev posOf (i : Fin 32768) : Fin 2048 := ⟨i.val % 2048, Nat.mod_lt _ (by omega)⟩
abbrev batchOfChunk (i : Fin 512) : Fin 16 := ⟨i.val / 32, by omega⟩
abbrev chunkOf (i : Fin 512) : Fin 32 := ⟨i.val % 32, Nat.mod_lt _ (by omega)⟩

namespace Inputs

variable (p : Inputs) (b : Fin 16) (t : Fin 2048)

/-- The projected row of a token. -/
def z (j : Fin 3248) : EReal := ∑ k, rms (p.x b t) p.g k * p.w k j

/-- The same row of the token before, zero before the first. -/
def zprev (j : Fin 3248) : EReal := if 1 ≤ t.val then p.z b ⟨t.val - 1, by omega⟩ j else 0

/-- The recurrent mixer's channels after the token shift. -/
def s (j : Fin 1696) : EReal := shift (p.z b t ⟨j.val, by omega⟩) (p.zprev b t ⟨j.val, by omega⟩) (p.mu j)

def r (j : Fin 512) : EReal := p.s b t ⟨j.val, by omega⟩
def k (j : Fin 512) : EReal := p.s b t ⟨512 + j.val, by omega⟩
def v (j : Fin 512) : EReal := p.s b t ⟨1024 + j.val, by omega⟩

/-- The decay's logit, and the log decay. -/
def logit (j : Fin 512) : EReal := p.db j + ∑ i : Fin 32, Ideal.tanh (p.s b t ⟨1536 + i.val, by omega⟩) * p.du i j
def ld (j : Fin 512) : EReal := logDecay (p.logit b t j)

/-- The in-context learning rate, and the output gate. -/
def a (j : Fin 512) : EReal := sigm (p.ib j + ∑ i : Fin 32, p.s b t ⟨1568 + i.val, by omega⟩ * p.iu i j)
def gate (j : Fin 512) : EReal := ∑ i : Fin 96, sigm (p.s b t ⟨1600 + i.val, by omega⟩) * p.gu i j

/-- The key direction to remove, and the key to write. -/
def dir (j : Fin 512) : EReal := unit (fun i => p.k b t i * p.kk i) j
def key (j : Fin 512) : EReal := writeKey (p.k b t j) (p.a b t j) (p.ka j)

/-- The log decay summed from the chunk's first token up to this one, and over the chunk. -/
def cum (j : Fin 512) : EReal :=
  ∑ e : Fin 64, if e.val ≤ t.val % 64 then p.ld b ⟨64 * (t.val / 64) + e.val, by omega⟩ j else 0
def tot (n : Fin 32) (j : Fin 512) : EReal := ∑ e : Fin 64, p.ld b ⟨64 * n.val + e.val, by omega⟩ j

abbrev chunk (t : Fin 2048) : Fin 32 := ⟨t.val / 64, by omega⟩

/- The eleven results, at a token and a channel. -/
def remIn (j : Fin 512) : EReal := -p.dir b t j * Ideal.exp (p.cum b t j - p.ld b t j)
def rIn (j : Fin 512) : EReal := p.r b t j * Ideal.exp (p.cum b t j)
def addIn (j : Fin 512) : EReal := p.dir b t j * p.a b t j * Ideal.exp (-p.cum b t j)
def keyIn (j : Fin 512) : EReal := p.key b t j * Ideal.exp (-p.cum b t j)
def addEnd (j : Fin 512) : EReal := p.addIn b t j * Ideal.exp (p.tot b (chunk t) j)
def keyEnd (j : Fin 512) : EReal := p.keyIn b t j * Ideal.exp (p.tot b (chunk t) j)
def bonus (j : Fin 512) : EReal := head (fun i => p.r b t i * p.key b t i * p.rk i) j * p.v b t j
def decay (n : Fin 32) (j : Fin 512) : EReal := Ideal.exp (p.tot b n j)
def zgla (j : Fin 1664) : EReal := if h : j.val < 1552 then p.z b t ⟨1696 + j.val, by omega⟩ else 0

theorem ld_finite (j : Fin 512) : ∃ r : ℝ, p.ld b t j = (r : EReal) := logDecay_finite _

theorem cum_finite (j : Fin 512) : ∃ r : ℝ, p.cum b t j = (r : EReal) := by
  refine sum_finite _ fun e => ?_
  split
  · exact p.ld_finite _ _ _
  · exact ⟨0, rfl⟩

theorem tot_finite (n : Fin 32) (j : Fin 512) : ∃ r : ℝ, p.tot b n j = (r : EReal) := sum_finite _ fun _ => p.ld_finite _ _ _

/-- The reference scales an end-of-chunk operand by the exponential of a difference. -/
theorem exp_end (j : Fin 512) : Ideal.exp (p.tot b (chunk t) j - p.cum b t j)
    = Ideal.exp (-p.cum b t j) * Ideal.exp (p.tot b (chunk t) j) := exp_sub _ _ (p.tot_finite b _ j) (p.cum_finite b t j)

/-- A chunk's sum is the running sum at its last token. -/
theorem tot_eq_cum (n : Fin 32) (j : Fin 512) : p.tot b n j = p.cum b ⟨64 * n.val + 63, by omega⟩ j := by
  refine Finset.sum_congr rfl fun e _ => ?_
  rw [if_pos (by show e.val ≤ (64 * n.val + 63) % 64; omega)]
  congr 2
  show 64 * n.val + e.val = 64 * ((64 * n.val + 63) / 64) + e.val
  omega

end Inputs

end Cert.PrepRow

end
-- ==== Proof.Prep.Tile.lean ====
/- What the kernel computes for 256 tokens (half of a grid point's rows), from the shifted channels `lo` (the two
   low-rank inputs and the gate's), `r`, `k`, `v` and the weights: first as vectors, then at an index as the functions of
   Row.lean at that token. -/
module

public import proofs.«01_k».proof.Proof.Prep.Row
public import proofs.«01_k».proof.Proof.Gen.PrepKernelIdeal.Skeleton
public import Idealize.ShloMosaic.Lib.Pointwise

@[expose] public section

set_option maxRecDepth 16384

noncomputable section

namespace Cert.PrepKernelIdeal.Tile

open Cert.PrepKernelIdeal Cert.PrepKernelIdeal.Gen Idealize.ShloMosaic
open Cert.PrepRow Cert.PrepSums
open scoped BigOperators

/-! The vectors. -/

/-- The row number of each of 256 rows. -/
abbrev rows : IVec S256x1 32 := iota Kind.tc S256x1 32 [0] iota_S256x1_d0_w32

/-- Token shift of 512 channels: row `0` looks back at `first`. -/
abbrev mix (cur : FVec Ideal S256x512 .f32) (first mu : FVec Ideal S1x512 .f32) : FVec Ideal S256x512 .f32 :=
  k0_pay90 (F := Ideal) rows cur first mu

/-- Token shift of 256 channels, likewise. -/
def mixLo (cur : FVec Ideal S256x256 .f32) (first mu : FVec Ideal S1x256 .f32) : FVec Ideal S256x256 .f32 :=
  addf cur (mulf (subf (select
      (broadcastTo S256x256 (shapeCast S256x1 (cmpi .eq rows (broadcast S256x1 0#32)) shapeCasts_S256x1_S256x1) broadcasts_S256x1_S256x256)
      (broadcastTo S256x256 (shapeCast S1x256 first shapeCasts_S1x256_S1x256) broadcasts_S1x256_S256x256)
      (dynamicRotate 0 1#32 none cur rotates_S256x256_d0)) cur)
    (broadcastTo S256x256 (shapeCast S1x256 mu shapeCasts_S1x256_S1x256) broadcasts_S1x256_S256x256))

/-- A low-rank product. -/
def lora (h : FVec Ideal S256x256 .f32) (w : FVec Ideal S256x512 .bf16) : FVec Ideal S256x512 .f32 :=
  matmul dot_S256x256_S256x512_S256x512_1_0_0_1_n_n none (truncf .bf16 h bitsLt_bf16_f32)
    (shapeCast S256x512 w shapeCasts_S256x512_S256x512) (constant S256x512 .f32 0x00000000#32)

/-- Each head's sum over its channels, by products with the block matrix of ones. -/
def heads (ones : FVec Ideal S256x256 .bf16) (y : FVec Ideal S256x512 .f32) : FVec Ideal S256x512 .f32 :=
  concatenate S256x512 1
    [⟨S256x256, matmul dot_S256x256_S256x256_S256x256_1_0_0_1_n_n none
        (extractStridedSlice S256x256 ![0, 0] (truncf .bf16 y bitsLt_bf16_f32) slices_S256x512_o0_0_S256x256) (k0_pay8 (F := Ideal) ones)
        (constant S256x256 .f32 0x00000000#32)⟩,
     ⟨S256x256, matmul dot_S256x256_S256x256_S256x256_1_0_0_1_n_n none
        (extractStridedSlice S256x256 ![0, 256] (truncf .bf16 y bitsLt_bf16_f32) slices_S256x512_o0_256_S256x256) (k0_pay8 (F := Ideal) ones)
        (constant S256x256 .f32 0x00000000#32)⟩] concatenates_S256x256_S256x256_S256x512_d1

/-- A vector scaled by a row of channels. -/
def scaled (y : FVec Ideal S256x512 .f32) (g : FVec Ideal S1x512 .f32) : FVec Ideal S256x512 .f32 :=
  mulf y (broadcastTo S256x512 (shapeCast S1x512 g shapeCasts_S1x512_S1x512) broadcasts_S1x512_S256x512)

abbrev ldV (lo : FVec Ideal S256x256 .f32) (db : FVec Ideal S1x512 .f32) (du : FVec Ideal S256x512 .bf16) : FVec Ideal S256x512 .f32 :=
  k0_pay27 (F := Ideal) (k0_pay25 (F := Ideal) db) (lora (tanh lo) du)
abbrev aV (lo : FVec Ideal S256x256 .f32) (ib : FVec Ideal S1x512 .f32) (iu : FVec Ideal S256x512 .bf16) : FVec Ideal S256x512 .f32 :=
  k0_pay28 (F := Ideal) lo ib iu
abbrev gateV (lo : FVec Ideal S256x256 .f32) (gu : FVec Ideal S256x512 .bf16) : FVec Ideal S256x512 .f32 := k0_pay29 (F := Ideal) lo gu
abbrev cumV (ld : FVec Ideal S256x512 .f32) (ltri : FVec Ideal S256x256 .bf16) : FVec Ideal S256x512 .f32 := k0_pay30 (F := Ideal) ld ltri
abbrev expCum (ld : FVec Ideal S256x512 .f32) (ltri : FVec Ideal S256x256 .bf16) : FVec Ideal S256x512 .f32 := k0_pay31 (F := Ideal) ld ltri
abbrev expNeg (ld : FVec Ideal S256x512 .f32) (ltri : FVec Ideal S256x256 .bf16) : FVec Ideal S256x512 .f32 := k0_pay32 (F := Ideal) ld ltri
abbrev expPrev (ld : FVec Ideal S256x512 .f32) (ltri : FVec Ideal S256x256 .bf16) : FVec Ideal S256x512 .f32 := k0_pay33 (F := Ideal) ld ltri
abbrev sqHeads (ones : FVec Ideal S256x256 .bf16) (k : FVec Ideal S256x512 .f32) (kk : FVec Ideal S1x512 .f32) : FVec Ideal S256x512 .f32 :=
  heads ones (mulf (scaled k kk) (scaled k kk))
abbrev dirV (ones : FVec Ideal S256x256 .bf16) (k : FVec Ideal S256x512 .f32) (kk : FVec Ideal S1x512 .f32) : FVec Ideal S256x512 .f32 :=
  k0_pay67 (F := Ideal) (scaled k kk) (sqHeads ones k kk)
abbrev keyV (a k : FVec Ideal S256x512 .f32) (ka : FVec Ideal S1x512 .f32) : FVec Ideal S256x512 .f32 := k0_pay68 (F := Ideal) a k ka

/-- The end-of-chunk operand of chunk `n` of the half: 64 rows times the decay over the chunk. -/
abbrev end0 (e y : FVec Ideal S256x512 .f32) : FVec Ideal S64x512 .bf16 := k0_pay51 (F := Ideal) e y
abbrev end1 (e y : FVec Ideal S256x512 .f32) : FVec Ideal S64x512 .bf16 := k0_pay54 (F := Ideal) e y
abbrev end2 (e y : FVec Ideal S256x512 .f32) : FVec Ideal S64x512 .bf16 := k0_pay57 (F := Ideal) e y
abbrev end3 (e y : FVec Ideal S256x512 .f32) : FVec Ideal S64x512 .bf16 := k0_pay61 (F := Ideal) (k0_pay59 (F := Ideal) e) (k0_pay60 (F := Ideal) y)

/-! The vectors at an index. -/

/-- The select of a token shift: row `0` takes the row carried in, any other the row above it. -/
theorem select_first (r : Fin 256) (f : Fin 256 → EReal) (z : EReal) :
    Scalar.select (IntOp.cmpi CmpIPredicate.eq (BitVec.ofNat 32 r.val) 0#32) z (f ⟨(r.val + 256 - 1) % 256, Nat.mod_lt _ (by omega)⟩)
      = if h : 1 ≤ r.val then f ⟨r.val - 1, by omega⟩ else z := by
  by_cases h : 1 ≤ r.val
  · have hb : IntOp.cmpi CmpIPredicate.eq (BitVec.ofNat 32 r.val) 0#32 = 0#1 := by
      have : ∀ r : Fin 256, 1 ≤ r.val → IntOp.cmpi CmpIPredicate.eq (BitVec.ofNat 32 r.val) 0#32 = 0#1 := by decide +kernel
      exact this r h
    rw [dif_pos h, hb]
    show f _ = f _
    congr 1
    apply Fin.ext
    show (r.val + 256 - 1) % 256 = r.val - 1
    omega
  · have h0 : r = 0 := Fin.ext (by show r.val = 0; omega)
    subst h0
    rw [dif_neg h]
    rfl

theorem mix_apply (cur : FVec Ideal S256x512 .f32) (first mu : FVec Ideal S1x512 .f32) (r : Fin 256) (j : Fin 512) :
    (mix cur first mu (ix2 r j) : EReal)
      = shift (cur (ix2 r j)) (if 1 ≤ r.val then cur (ix2 ⟨r.val - 1, by omega⟩ j) else first (ix2 0 j)) (mu (ix2 0 j)) := by
  unfold shift
  pointwise [mix, k0_pay90]
  have hs : Scalar.select (IntOp.cmpi CmpIPredicate.eq (BitVec.ofNat 32 r.val) 0#32) (first (ix2 0 j))
      (cur (ix2 ⟨(r.val + 256 - 1) % 256, Nat.mod_lt _ (by omega)⟩ j))
      = (if 1 ≤ r.val then cur (ix2 ⟨r.val - 1, by omega⟩ j) else first (ix2 0 j)) :=
    select_first r (fun r => cur (ix2 r j)) _
  rw [hs]

theorem mixLo_apply (cur : FVec Ideal S256x256 .f32) (first mu : FVec Ideal S1x256 .f32) (r j : Fin 256) :
    (mixLo cur first mu (ix2 r j) : EReal)
      = shift (cur (ix2 r j)) (if 1 ≤ r.val then cur (ix2 ⟨r.val - 1, by omega⟩ j) else first (ix2 0 j)) (mu (ix2 0 j)) := by
  unfold shift
  pointwise [mixLo]
  have hs : Scalar.select (IntOp.cmpi CmpIPredicate.eq (BitVec.ofNat 32 r.val) 0#32) (first (ix2 0 j))
      (cur (ix2 ⟨(r.val + 256 - 1) % 256, Nat.mod_lt _ (by omega)⟩ j))
      = (if 1 ≤ r.val then cur (ix2 ⟨r.val - 1, by omega⟩ j) else first (ix2 0 j)) :=
    select_first r (fun r => cur (ix2 r j)) _
  rw [hs]

theorem lora_apply (h : FVec Ideal S256x256 .f32) (w : FVec Ideal S256x512 .bf16) (r : Fin 256) (j : Fin 512) :
    (lora h w (ix2 r j) : EReal) = ∑ i, h (ix2 r i) * w (ix2 i j) := by
  pointwise [lora]

theorem scaled_apply (y : FVec Ideal S256x512 .f32) (g : FVec Ideal S1x512 .f32) (r : Fin 256) (j : Fin 512) :
    (scaled y g (ix2 r j) : EReal) = y (ix2 r j) * g (ix2 0 j) := by
  pointwise [scaled]

theorem ld_apply (lo : FVec Ideal S256x256 .f32) (db : FVec Ideal S1x512 .f32) (du : FVec Ideal S256x512 .bf16) (r : Fin 256) (j : Fin 512) :
    (ldV lo db du (ix2 r j) : EReal) = logDecay (db (ix2 0 j) + ∑ i, Ideal.tanh (lo (ix2 r i)) * du (ix2 i j)) := by
  unfold logDecay sigm
  pointwise [ldV, k0_pay27, k0_pay25]
  simp only [lora_apply, zero_sub]
  rfl

theorem a_apply (lo : FVec Ideal S256x256 .f32) (ib : FVec Ideal S1x512 .f32) (iu : FVec Ideal S256x512 .bf16) (r : Fin 256) (j : Fin 512) :
    (aV lo ib iu (ix2 r j) : EReal) = sigm (ib (ix2 0 j) + ∑ i, lo (ix2 r i) * iu (ix2 i j)) := by
  unfold sigm
  pointwise [aV, k0_pay28]
  simp only [zero_sub]

theorem gate_apply (lo : FVec Ideal S256x256 .f32) (gu : FVec Ideal S256x512 .bf16) (r : Fin 256) (j : Fin 512) :
    (gateV lo gu (ix2 r j) : EReal) = ∑ i, sigm (lo (ix2 r i)) * gu (ix2 i j) := by
  unfold sigm
  pointwise [gateV, k0_pay29]
  simp only [zero_sub]

theorem cum_apply (ld : FVec Ideal S256x512 .f32) (ltri : FVec Ideal S256x256 .bf16) (r : Fin 256) (j : Fin 512) :
    (cumV ld ltri (ix2 r j) : EReal) = ∑ k, ltri (ix2 r k) * ld (ix2 k j) + ∑ k, ltri (ix2 r k) * (ld (ix2 k j) - ld (ix2 k j)) := by
  pointwise [cumV, k0_pay30]

theorem heads_apply (ones : FVec Ideal S256x256 .bf16) (y : FVec Ideal S256x512 .f32)
    (hones : ∀ e j : Fin 256, (ones (ix2 e j) : EReal) = if e.val / 64 = j.val / 64 then 1 else 0) (r : Fin 256) (j : Fin 512) :
    (heads ones y (ix2 r j) : EReal) = head (fun i => y (ix2 r i)) j := by
  unfold head
  pointwise [heads, k0_pay8]
  split
  · rw [block_sum (n := 256) (j.val / 64) (by omega) (fun x => y (ix2 r ⟨x.val, by omega⟩)) _ (fun k => hones k _)]
  · rw [block_sum (n := 256) ((j.val - 256) / 64) (by omega) (fun x => y (ix2 r ⟨256 + x.val, by omega⟩)) _ (fun k => hones k _)]
    refine Finset.sum_congr rfl fun e _ => ?_
    congr 3
    show 256 + (64 * ((j.val - 256) / 64) + e.val) = 64 * (j.val / 64) + e.val
    omega

theorem dir_apply (ones : FVec Ideal S256x256 .bf16) (k : FVec Ideal S256x512 .f32) (kk : FVec Ideal S1x512 .f32)
    (hones : ∀ e j : Fin 256, (ones (ix2 e j) : EReal) = if e.val / 64 = j.val / 64 then 1 else 0) (r : Fin 256) (j : Fin 512) :
    (dirV ones k kk (ix2 r j) : EReal) = unit (fun i => k (ix2 r i) * kk (ix2 0 i)) j := by
  unfold unit
  pointwise [dirV, k0_pay67]
  rw [show sqHeads ones k kk (ix2 r j) = head (fun i => (mulf (scaled k kk) (scaled k kk) (ix2 r i) : EReal)) j from heads_apply ones _ hones r j]
  simp only [scaled_apply]
  have h : ∀ i : Fin 512, (mulf (scaled k kk) (scaled k kk) (ix2 r i) : EReal)
      = k (ix2 r i) * kk (ix2 0 i) * (k (ix2 r i) * kk (ix2 0 i)) := fun i => by
    rw [← scaled_apply]; rfl
  simp only [h]

theorem key_apply (a k : FVec Ideal S256x512 .f32) (ka : FVec Ideal S1x512 .f32) (r : Fin 256) (j : Fin 512) :
    (keyV a k ka (ix2 r j) : EReal) = writeKey (k (ix2 r j)) (a (ix2 r j)) (ka (ix2 0 j)) := by
  unfold writeKey
  pointwise [keyV, k0_pay68]

/-! The half's rows as tokens of the sequence. -/

/-- The weights as the kernel gets them: the low-rank ones padded with rows of zeros to 256, and the two constant matrices. -/
structure Weights where
  db : FVec Ideal S1x512 .f32
  du : FVec Ideal S256x512 .bf16
  ib : FVec Ideal S1x512 .f32
  iu : FVec Ideal S256x512 .bf16
  gu : FVec Ideal S256x512 .bf16
  kk : FVec Ideal S1x512 .f32
  ka : FVec Ideal S1x512 .f32
  rk : FVec Ideal S1x512 .f32
  ones : FVec Ideal S256x256 .bf16
  ltri : FVec Ideal S256x256 .bf16

structure Weights.Of (w : Weights) (p : Inputs) : Prop where
  db : ∀ j, (w.db (ix2 0 j) : EReal) = p.db j
  du : ∀ (i : Fin 32) j, (w.du (ix2 ⟨0 + i.val, by omega⟩ j) : EReal) = p.du i j
  du0 : ∀ (i : Fin 256) j, (i.val < 0 ∨ 0 + 32 ≤ i.val) → (w.du (ix2 i j) : EReal) = 0
  ib : ∀ j, (w.ib (ix2 0 j) : EReal) = p.ib j
  iu : ∀ (i : Fin 32) j, (w.iu (ix2 ⟨32 + i.val, by omega⟩ j) : EReal) = p.iu i j
  iu0 : ∀ (i : Fin 256) j, (i.val < 32 ∨ 32 + 32 ≤ i.val) → (w.iu (ix2 i j) : EReal) = 0
  gu : ∀ (i : Fin 96) j, (w.gu (ix2 ⟨64 + i.val, by omega⟩ j) : EReal) = p.gu i j
  gu0 : ∀ (i : Fin 256) j, (i.val < 64 ∨ 64 + 96 ≤ i.val) → (w.gu (ix2 i j) : EReal) = 0
  kk : ∀ j, (w.kk (ix2 0 j) : EReal) = p.kk j
  ka : ∀ j, (w.ka (ix2 0 j) : EReal) = p.ka j
  rk : ∀ j, (w.rk (ix2 0 j) : EReal) = p.rk j
  ones : ∀ e j : Fin 256, (w.ones (ix2 e j) : EReal) = if e.val / 64 = j.val / 64 then 1 else 0
  ltri : ∀ r k : Fin 256, (w.ltri (ix2 r k) : EReal) = if k.val ≤ r.val ∧ k.val / 64 = r.val / 64 then 1 else 0

/-- The shifted channels of a half. -/
structure Half where
  lo : FVec Ideal S256x256 .f32
  r : FVec Ideal S256x512 .f32
  k : FVec Ideal S256x512 .f32
  v : FVec Ideal S256x512 .f32

/-- The half's rows are the tokens from `256 * q` on of batch row `b`. -/
structure Half.Of (h : Half) (p : Inputs) (b : Fin 16) (q : Fin 8) : Prop where
  lo : ∀ (r : Fin 256) (i : Fin 160), (h.lo (ix2 r ⟨i.val, by omega⟩) : EReal) = p.s b ⟨256 * q.val + r.val, by omega⟩ ⟨1536 + i.val, by omega⟩
  r : ∀ (r : Fin 256) (j : Fin 512), (h.r (ix2 r j) : EReal) = p.r b ⟨256 * q.val + r.val, by omega⟩ j
  k : ∀ (r : Fin 256) (j : Fin 512), (h.k (ix2 r j) : EReal) = p.k b ⟨256 * q.val + r.val, by omega⟩ j
  v : ∀ (r : Fin 256) (j : Fin 512), (h.v (ix2 r j) : EReal) = p.v b ⟨256 * q.val + r.val, by omega⟩ j

namespace Half

variable {w : Weights} {p : Inputs} {h : Half} {b : Fin 16} {q : Fin 8} (hw : w.Of p) (hh : h.Of p b q) (r : Fin 256) (j : Fin 512)

abbrev tok (q : Fin 8) (r : Fin 256) : Fin 2048 := ⟨256 * q.val + r.val, by omega⟩

abbrev ld (h : Half) (w : Weights) := ldV h.lo w.db w.du
abbrev a (h : Half) (w : Weights) := aV h.lo w.ib w.iu
abbrev gate (h : Half) (w : Weights) := gateV h.lo w.gu
abbrev cum (h : Half) (w : Weights) := cumV (h.ld w) w.ltri
abbrev dir (h : Half) (w : Weights) := dirV w.ones h.k w.kk
abbrev key (h : Half) (w : Weights) := keyV (h.a w) h.k w.ka
abbrev eCum (h : Half) (w : Weights) := expCum (h.ld w) w.ltri
abbrev eNeg (h : Half) (w : Weights) := expNeg (h.ld w) w.ltri

/-- What the half stores. -/
abbrev remIn (h : Half) (w : Weights) : FVec Ideal S256x512 .bf16 :=
  k0_pay69 (F := Ideal) (expPrev (h.ld w) w.ltri) (scaled h.k w.kk) (sqHeads w.ones h.k w.kk)
abbrev rIn (h : Half) (w : Weights) : FVec Ideal S256x512 .bf16 := truncf .bf16 (mulf h.r (h.eCum w)) bitsLt_bf16_f32
abbrev addIn (h : Half) (w : Weights) : FVec Ideal S256x512 .f32 := mulf (mulf (h.dir w) (h.a w)) (h.eNeg w)
abbrev keyIn (h : Half) (w : Weights) : FVec Ideal S256x512 .f32 := mulf (h.key w) (h.eNeg w)
abbrev bonus (h : Half) (w : Weights) : FVec Ideal S256x512 .f32 :=
  mulf (heads w.ones (scaled (mulf h.r (h.key w)) w.rk)) h.v

include hw hh

theorem ld_at : (h.ld w (ix2 r j) : EReal) = p.ld b (tok q r) j := by
  refine (ld_apply _ _ _ r j).trans ?_
  rw [padded_sum 0 (by omega) (fun i => Ideal.tanh (h.lo (ix2 r i))) (fun i => w.du (ix2 i j)) (fun i => p.du i j)
    (fun i => hw.du i j) (fun k hk => hw.du0 k j hk), hw.db]
  unfold Inputs.ld Inputs.logit
  congr 2
  refine Finset.sum_congr rfl fun i _ => ?_
  have := hh.lo r ⟨i.val, by omega⟩
  rw [← this]
  congr 4
  exact Fin.ext (Nat.zero_add _)

theorem a_at : (h.a w (ix2 r j) : EReal) = p.a b (tok q r) j := by
  refine (a_apply _ _ _ r j).trans ?_
  rw [padded_sum 32 (by omega) (fun i => h.lo (ix2 r i)) (fun i => w.iu (ix2 i j)) (fun i => p.iu i j)
    (fun i => hw.iu i j) (fun k hk => hw.iu0 k j hk), hw.ib]
  unfold Inputs.a
  congr 2
  refine Finset.sum_congr rfl fun i _ => ?_
  have := hh.lo r ⟨32 + i.val, by omega⟩
  rw [this]
  congr 2
  exact Fin.ext (by show 1536 + (32 + i.val) = 1568 + i.val; omega)

theorem gate_at : (h.gate w (ix2 r j) : EReal) = p.gate b (tok q r) j := by
  refine (gate_apply _ _ r j).trans ?_
  rw [padded_sum 64 (by omega) (fun i => sigm (h.lo (ix2 r i))) (fun i => w.gu (ix2 i j)) (fun i => p.gu i j)
    (fun i => hw.gu i j) (fun k hk => hw.gu0 k j hk)]
  unfold Inputs.gate
  refine Finset.sum_congr rfl fun i _ => ?_
  have := hh.lo r ⟨64 + i.val, by omega⟩
  rw [this]
  congr 3
  exact Fin.ext (by show 1536 + (64 + i.val) = 1600 + i.val; omega)

theorem cum_at : (h.cum w (ix2 r j) : EReal) = p.cum b (tok q r) j := by
  refine (cum_apply _ _ r j).trans ?_
  have hz : ∀ k : Fin 256, (h.ld w (ix2 k j) : EReal) - h.ld w (ix2 k j) = 0 := fun k => by
    rw [ld_at hw hh]; exact sub_self_finite _ (p.ld_finite _ _ _)
  rw [Finset.sum_eq_zero (s := Finset.univ) (f := fun k => (w.ltri (ix2 r k) : EReal) * (h.ld w (ix2 k j) - h.ld w (ix2 k j)))
    (fun k _ => by rw [hz, mul_zero]), add_zero,
    block_prefix_sum r (by omega) (fun k => h.ld w (ix2 k j)) (fun k => w.ltri (ix2 r k)) (fun k => hw.ltri r k)]
  unfold Inputs.cum
  refine Finset.sum_congr rfl fun e _ => ?_
  have he : r.val % 64 = (tok q r).val % 64 := by show r.val % 64 = (256 * q.val + r.val) % 64; omega
  rw [he]
  split
  · rw [ld_at hw hh]
    congr 1
    exact Fin.ext (by show 256 * q.val + (64 * (r.val / 64) + e.val) = 64 * ((256 * q.val + r.val) / 64) + e.val; omega)
  · rfl

theorem dir_at : (h.dir w (ix2 r j) : EReal) = p.dir b (tok q r) j := by
  refine (dir_apply _ _ _ hw.ones r j).trans ?_
  unfold Inputs.dir
  simp only [hh.k, hw.kk]

theorem key_at : (h.key w (ix2 r j) : EReal) = p.key b (tok q r) j := by
  refine (key_apply _ _ _ r j).trans ?_
  rw [hh.k, a_at hw hh, hw.ka]
  rfl

theorem eCum_at : (h.eCum w (ix2 r j) : EReal) = Ideal.exp (p.cum b (tok q r) j) := by
  rw [← cum_at hw hh]; rfl

theorem eNeg_at : (h.eNeg w (ix2 r j) : EReal) = Ideal.exp (-p.cum b (tok q r) j) := by
  rw [← cum_at hw hh, ← zero_sub]
  pointwise [expNeg, k0_pay32]

theorem remIn_at : (h.remIn w (ix2 r j) : EReal) = p.remIn b (tok q r) j := by
  unfold Inputs.remIn
  rw [← dir_at hw hh, ← cum_at hw hh, ← ld_at hw hh, ← zero_sub]
  pointwise [remIn, k0_pay69, expPrev, k0_pay33]

theorem rIn_at : (h.rIn w (ix2 r j) : EReal) = p.rIn b (tok q r) j := by
  unfold Inputs.rIn
  rw [← eCum_at hw hh, ← hh.r]
  rfl

theorem addIn_at : (h.addIn w (ix2 r j) : EReal) = p.addIn b (tok q r) j := by
  unfold Inputs.addIn
  rw [← dir_at hw hh, ← a_at hw hh, ← eNeg_at hw hh]
  rfl

theorem keyIn_at : (h.keyIn w (ix2 r j) : EReal) = p.keyIn b (tok q r) j := by
  unfold Inputs.keyIn
  rw [← key_at hw hh, ← eNeg_at hw hh]
  rfl

theorem bonus_at : (h.bonus w (ix2 r j) : EReal) = p.bonus b (tok q r) j := by
  unfold Inputs.bonus
  rw [← hh.v]
  have hs : ∀ i : Fin 512, (scaled (mulf h.r (h.key w)) w.rk (ix2 r i) : EReal) = p.r b (tok q r) i * p.key b (tok q r) i * p.rk i := fun i => by
    rw [scaled_apply, hw.rk, ← hh.r, ← key_at hw hh]
    rfl
  simp only [← hs]
  rw [← heads_apply w.ones _ hw.ones]
  rfl

/-- The decay over a chunk, read at the last row of the chunk. -/
theorem chunk_at (n : Fin 4) (r : Fin 256) (hr : r.val = 64 * n.val + 63) :
    (h.eCum w (ix2 r j) : EReal) = p.decay b ⟨4 * q.val + n.val, by omega⟩ j := by
  rw [eCum_at hw hh]
  unfold Inputs.decay
  rw [Inputs.tot_eq_cum]
  congr 2
  exact Fin.ext (by show 256 * q.val + r.val = 64 * (4 * q.val + n.val) + 63; omega)

/-- A chunk's operand at its end: each row times the exponential at the chunk's last token. -/
theorem addEnd_at (n : Fin 4) (s : Fin 64) (j : Fin 512) :
    (h.addIn w (ix2 ⟨64 * n.val + s.val, by omega⟩ j) * h.eCum w (ix2 ⟨64 * n.val + 63, by omega⟩ j) : EReal)
      = p.addEnd b (tok q ⟨64 * n.val + s.val, by omega⟩) j := by
  rw [addIn_at hw hh, chunk_at hw hh j n _ rfl]
  unfold Inputs.addEnd Inputs.decay
  congr 3
  exact Fin.ext (by show 4 * q.val + n.val = (256 * q.val + (64 * n.val + s.val)) / 64; omega)

theorem keyEnd_at (n : Fin 4) (s : Fin 64) (j : Fin 512) :
    (h.keyIn w (ix2 ⟨64 * n.val + s.val, by omega⟩ j) * h.eCum w (ix2 ⟨64 * n.val + 63, by omega⟩ j) : EReal)
      = p.keyEnd b (tok q ⟨64 * n.val + s.val, by omega⟩) j := by
  rw [keyIn_at hw hh, chunk_at hw hh j n _ rfl]
  unfold Inputs.keyEnd Inputs.decay
  congr 3
  exact Fin.ext (by show 4 * q.val + n.val = (256 * q.val + (64 * n.val + s.val)) / 64; omega)

end Half

/-! The four chunks' end operands and last rows of a half, at an index. -/

theorem end0_apply (e y : FVec Ideal S256x512 .f32) (s : Fin 64) (j : Fin 512) :
    (end0 e y (ix2 s j) : EReal) = y (ix2 ⟨64 * (0 : Fin 4).val + s.val, by omega⟩ j) * e (ix2 ⟨64 * (0 : Fin 4).val + 63, by omega⟩ j) := by
  pointwise [end0, k0_pay51, k0_pay50]
theorem end1_apply (e y : FVec Ideal S256x512 .f32) (s : Fin 64) (j : Fin 512) :
    (end1 e y (ix2 s j) : EReal) = y (ix2 ⟨64 * (1 : Fin 4).val + s.val, by omega⟩ j) * e (ix2 ⟨64 * (1 : Fin 4).val + 63, by omega⟩ j) := by
  pointwise [end1, k0_pay54, k0_pay53]
theorem end2_apply (e y : FVec Ideal S256x512 .f32) (s : Fin 64) (j : Fin 512) :
    (end2 e y (ix2 s j) : EReal) = y (ix2 ⟨64 * (2 : Fin 4).val + s.val, by omega⟩ j) * e (ix2 ⟨64 * (2 : Fin 4).val + 63, by omega⟩ j) := by
  pointwise [end2, k0_pay57, k0_pay56]
theorem end3_apply (e y : FVec Ideal S256x512 .f32) (s : Fin 64) (j : Fin 512) :
    (end3 e y (ix2 s j) : EReal) = y (ix2 ⟨64 * (3 : Fin 4).val + s.val, by omega⟩ j) * e (ix2 ⟨64 * (3 : Fin 4).val + 63, by omega⟩ j) := by
  pointwise [end3, k0_pay61, k0_pay59, k0_pay60]
theorem last0_apply (e : FVec Ideal S256x512 .f32) (z : Fin 1) (j : Fin 512) :
    (k0_pay19 (F := Ideal) e (ix2 z j) : EReal) = e (ix2 ⟨63, by omega⟩ j) := by
  pointwise [k0_pay19]
theorem last1_apply (e : FVec Ideal S256x512 .f32) (z : Fin 1) (j : Fin 512) :
    (k0_pay20 (F := Ideal) e (ix2 z j) : EReal) = e (ix2 ⟨127, by omega⟩ j) := by
  pointwise [k0_pay20]
theorem last2_apply (e : FVec Ideal S256x512 .f32) (z : Fin 1) (j : Fin 512) :
    (k0_pay21 (F := Ideal) e (ix2 z j) : EReal) = e (ix2 ⟨191, by omega⟩ j) := by
  pointwise [k0_pay21]
theorem last3_apply (e : FVec Ideal S256x512 .f32) (z : Fin 1) (j : Fin 512) :
    (k0_pay22 (F := Ideal) e (ix2 z j) : EReal) = e (ix2 ⟨255, by omega⟩ j) := by
  pointwise [k0_pay22]

end Cert.PrepKernelIdeal.Tile

end
-- ==== Proof.Prep.Point.lean ====
/- What one grid point computes from its blocks: the two halves of its 512 tokens and what it carries to the next point,
   first as vectors, then as tokens of the sequence. -/
module

public import proofs.«01_k».proof.Proof.Prep.Tile
public import Idealize.ShloMosaic.Lib.Pipeline.ValueKit

@[expose] public section

set_option maxRecDepth 16384

noncomputable section

namespace Cert.PrepKernelIdeal.Tile

open Cert.PrepKernelIdeal Cert.PrepKernelIdeal.Gen Idealize.ShloMosaic
open Cert.PrepRow Cert.PrepSums
open scoped BigOperators

/-- The normalised tokens times 512 of the projection's columns. -/
abbrev proj (x0 : FVec Ideal S512x1024 .f32) (x1 : FVec Ideal S1x1024 .f32) (w : FVec Ideal S1024x512 .bf16) : FVec Ideal S512x512 .f32 :=
  k0_pay23 (F := Ideal) (k0_pay7 (F := Ideal) x0 x1) w

/-- The first half of a point's tokens, `zp` the row carried in. -/
def topHalf (x0 : FVec Ideal S512x1024 .f32) (x1 : FVec Ideal S1x1024 .f32) (x2 : FVec Ideal S1024x1792 .bf16)
    (x4 zp : FVec Ideal S1x1792 .f32) : Half where
  lo := mixLo (extractStridedSlice S256x256 ![0, 0]
      (k0_pay9 (F := Ideal) x0 x1 (View.ld (Val := Elt Ideal) (e' := .bf16) x2 (Rect.unit ![0, 1536] ![1024, 256] inb_S1024x1792_S1024x256_0_1536))) slices_S512x256_o0_0_S256x256)
    (View.ld (Val := Elt Ideal) (e' := .f32) zp (Rect.unit ![0, 1536] ![1, 256] inb_S1x1792_S1x256_0_1536)) (View.ld (Val := Elt Ideal) (e' := .f32) x4 (Rect.unit ![0, 1536] ![1, 256] inb_S1x1792_S1x256_0_1536))
  r := mix (k0_pay89 (F := Ideal) (proj x0 x1 (View.ld (Val := Elt Ideal) (e' := .bf16) x2 (Rect.unit ![0, 0] ![1024, 512] inb_S1024x1792_S1024x512_0_0))))
    (View.ld (Val := Elt Ideal) (e' := .f32) zp (Rect.unit ![0, 0] ![1, 512] inb_S1x1792_S1x512_0_0)) (View.ld (Val := Elt Ideal) (e' := .f32) x4 (Rect.unit ![0, 0] ![1, 512] inb_S1x1792_S1x512_0_0))
  k := mix (k0_pay89 (F := Ideal) (proj x0 x1 (View.ld (Val := Elt Ideal) (e' := .bf16) x2 (Rect.unit ![0, 512] ![1024, 512] inb_S1024x1792_S1024x512_0_512))))
    (View.ld (Val := Elt Ideal) (e' := .f32) zp (Rect.unit ![0, 512] ![1, 512] inb_S1x1792_S1x512_0_512)) (View.ld (Val := Elt Ideal) (e' := .f32) x4 (Rect.unit ![0, 512] ![1, 512] inb_S1x1792_S1x512_0_512))
  v := mix (k0_pay89 (F := Ideal) (proj x0 x1 (View.ld (Val := Elt Ideal) (e' := .bf16) x2 (Rect.unit ![0, 1024] ![1024, 512] inb_S1024x1792_S1024x512_0_1024))))
    (View.ld (Val := Elt Ideal) (e' := .f32) zp (Rect.unit ![0, 1024] ![1, 512] inb_S1x1792_S1x512_0_1024)) (View.ld (Val := Elt Ideal) (e' := .f32) x4 (Rect.unit ![0, 1024] ![1, 512] inb_S1x1792_S1x512_0_1024))

/-- The second half: its first row looks back at the first half's last. -/
def botHalf (x0 : FVec Ideal S512x1024 .f32) (x1 : FVec Ideal S1x1024 .f32) (x2 : FVec Ideal S1024x1792 .bf16)
    (x4 : FVec Ideal S1x1792 .f32) : Half where
  lo := mixLo (extractStridedSlice S256x256 ![256, 0]
      (k0_pay9 (F := Ideal) x0 x1 (View.ld (Val := Elt Ideal) (e' := .bf16) x2 (Rect.unit ![0, 1536] ![1024, 256] inb_S1024x1792_S1024x256_0_1536))) slices_S512x256_o256_0_S256x256)
    (extractStridedSlice S1x256 ![255, 0]
      (k0_pay9 (F := Ideal) x0 x1 (View.ld (Val := Elt Ideal) (e' := .bf16) x2 (Rect.unit ![0, 1536] ![1024, 256] inb_S1024x1792_S1024x256_0_1536))) slices_S512x256_o255_0_S1x256)
    (View.ld (Val := Elt Ideal) (e' := .f32) x4 (Rect.unit ![0, 1536] ![1, 256] inb_S1x1792_S1x256_0_1536))
  r := mix (k0_pay94 (F := Ideal) (proj x0 x1 (View.ld (Val := Elt Ideal) (e' := .bf16) x2 (Rect.unit ![0, 0] ![1024, 512] inb_S1024x1792_S1024x512_0_0))))
    (k0_pay95 (F := Ideal) (proj x0 x1 (View.ld (Val := Elt Ideal) (e' := .bf16) x2 (Rect.unit ![0, 0] ![1024, 512] inb_S1024x1792_S1024x512_0_0)))) (View.ld (Val := Elt Ideal) (e' := .f32) x4 (Rect.unit ![0, 0] ![1, 512] inb_S1x1792_S1x512_0_0))
  k := mix (k0_pay94 (F := Ideal) (proj x0 x1 (View.ld (Val := Elt Ideal) (e' := .bf16) x2 (Rect.unit ![0, 512] ![1024, 512] inb_S1024x1792_S1024x512_0_512))))
    (k0_pay95 (F := Ideal) (proj x0 x1 (View.ld (Val := Elt Ideal) (e' := .bf16) x2 (Rect.unit ![0, 512] ![1024, 512] inb_S1024x1792_S1024x512_0_512)))) (View.ld (Val := Elt Ideal) (e' := .f32) x4 (Rect.unit ![0, 512] ![1, 512] inb_S1x1792_S1x512_0_512))
  v := mix (k0_pay94 (F := Ideal) (proj x0 x1 (View.ld (Val := Elt Ideal) (e' := .bf16) x2 (Rect.unit ![0, 1024] ![1024, 512] inb_S1024x1792_S1024x512_0_1024))))
    (k0_pay95 (F := Ideal) (proj x0 x1 (View.ld (Val := Elt Ideal) (e' := .bf16) x2 (Rect.unit ![0, 1024] ![1024, 512] inb_S1024x1792_S1024x512_0_1024)))) (View.ld (Val := Elt Ideal) (e' := .f32) x4 (Rect.unit ![0, 1024] ![1, 512] inb_S1x1792_S1x512_0_1024))

/-- A load of a box of a matrix, at an index. -/
theorem ld_box {a b o p n k : Nat} {e : EltTy} (X : (⟨2, ![a, b]⟩ : Shape).Idx → Elt Ideal e)
    (inb : ∀ i, (![o, p] : Fin 2 → Nat) i + (![n, k] : Fin 2 → Nat) i ≤ (⟨2, ![a, b]⟩ : Shape).size i) (r : Fin n) (j : Fin k)
    (hr : o + r.val < a) (hj : p + j.val < b) :
    View.ld (Val := Elt Ideal) X (Rect.unit (s := (⟨2, ![a, b]⟩ : Shape)) ![o, p] ![n, k] inb) (ix2 r j) = X (ix2 ⟨o + r.val, hr⟩ ⟨p + j.val, hj⟩) := by
  rw [View.ld_apply]
  congr 1
  funext i
  apply Fin.ext
  match i with
  | ⟨0, _⟩ => show o + 1 * r.val = o + r.val; omega
  | ⟨1, _⟩ => show p + 1 * j.val = p + j.val; omega

theorem norm_apply (x0 : FVec Ideal S512x1024 .f32) (x1 : FVec Ideal S1x1024 .f32) (r : Fin 512) (k : Fin 1024) :
    (k0_pay7 (F := Ideal) x0 x1 (ix2 r k) : EReal) = rms (fun k => x0 (ix2 r k)) (fun k => x1 (ix2 0 k)) k := by
  unfold rms
  pointwise [k0_pay7]

theorem proj_apply (x0 : FVec Ideal S512x1024 .f32) (x1 : FVec Ideal S1x1024 .f32) (w : FVec Ideal S1024x512 .bf16) (r j : Fin 512) :
    (proj x0 x1 w (ix2 r j) : EReal) = ∑ k, rms (fun k => x0 (ix2 r k)) (fun k => x1 (ix2 0 k)) k * w (ix2 k j) := by
  simp only [← norm_apply]
  pointwise [proj, k0_pay23]

theorem projLo_apply (x0 : FVec Ideal S512x1024 .f32) (x1 : FVec Ideal S1x1024 .f32) (w : FVec Ideal S1024x256 .bf16) (r : Fin 512) (j : Fin 256) :
    (k0_pay9 (F := Ideal) x0 x1 w (ix2 r j) : EReal) = ∑ k, rms (fun k => x0 (ix2 r k)) (fun k => x1 (ix2 0 k)) k * w (ix2 k j) := by
  simp only [← norm_apply]
  pointwise [k0_pay9]

/-- A point's blocks hold the tokens from `512 * q` on of batch row `b`, and the columns of the recurrent mixer. -/
structure Blocks (x0 : FVec Ideal S512x1024 .f32) (x1 : FVec Ideal S1x1024 .f32) (x2 : FVec Ideal S1024x1792 .bf16)
    (x4 : FVec Ideal S1x1792 .f32) (p : Inputs) (b : Fin 16) (q : Fin 4) : Prop where
  x : ∀ (r : Fin 512) k, (x0 (ix2 r k) : EReal) = p.x b ⟨512 * q.val + r.val, by omega⟩ k
  g : ∀ k, (x1 (ix2 0 k) : EReal) = p.g k
  w : ∀ k (j : Fin 1696), (x2 (ix2 k ⟨j.val, by omega⟩) : EReal) = p.w k ⟨j.val, by omega⟩
  mu : ∀ j : Fin 1696, (x4 (ix2 0 ⟨j.val, by omega⟩) : EReal) = p.mu j

/-- The row carried in is the token before's projection, zero at the first token. -/
def Carry (zp : FVec Ideal S1x1792 .f32) (p : Inputs) (b : Fin 16) (q : Fin 4) : Prop :=
  ∀ j : Fin 1696, (zp (ix2 0 ⟨j.val, by omega⟩) : EReal) = if h : 1 ≤ q.val then p.z b ⟨512 * q.val - 1, by omega⟩ ⟨j.val, by omega⟩ else 0

section

variable {x0 : FVec Ideal S512x1024 .f32} {x1 : FVec Ideal S1x1024 .f32} {x2 : FVec Ideal S1024x1792 .bf16}
  {x4 zp : FVec Ideal S1x1792 .f32} {p : Inputs} {b : Fin 16} {q : Fin 4}

/-- The first half's token shift of one channel. -/
theorem shift_top (Z : Fin 512 → EReal) (j : Fin 1696) (hZ : ∀ r : Fin 512, Z r = p.z b ⟨512 * q.val + r.val, by omega⟩ ⟨j.val, by omega⟩)
    (first : EReal) (hf : first = if h : 1 ≤ q.val then p.z b ⟨512 * q.val - 1, by omega⟩ ⟨j.val, by omega⟩ else 0) (r : Fin 256) :
    shift (Z ⟨r.val, by omega⟩) (if 1 ≤ r.val then Z ⟨r.val - 1, by omega⟩ else first) (p.mu j)
      = p.s b ⟨256 * (2 * q.val) + r.val, by omega⟩ j := by
  unfold Inputs.s Inputs.zprev
  have e : (⟨512 * q.val + r.val, by omega⟩ : Fin 2048) = ⟨256 * (2 * q.val) + r.val, by omega⟩ := Fin.ext (by show 512 * q.val + r.val = 256 * (2 * q.val) + r.val; omega)
  rw [hZ, ← e]
  congr 1
  by_cases h : 1 ≤ r.val
  · rw [if_pos h, hZ, if_pos (by show 1 ≤ 512 * q.val + r.val; omega)]
    congr 1
    exact Fin.ext (by show 512 * q.val + (r.val - 1) = 512 * q.val + r.val - 1; omega)
  · rw [if_neg h, hf]
    by_cases hq : 1 ≤ q.val
    · rw [dif_pos hq, if_pos (by show 1 ≤ 512 * q.val + r.val; omega)]
      congr 1
      exact Fin.ext (by show 512 * q.val - 1 = 512 * q.val + r.val - 1; omega)
    · rw [dif_neg hq, if_neg (by show ¬ 1 ≤ 512 * q.val + r.val; omega)]

/-- The second half's. -/
theorem shift_bot (Z : Fin 512 → EReal) (j : Fin 1696) (hZ : ∀ r : Fin 512, Z r = p.z b ⟨512 * q.val + r.val, by omega⟩ ⟨j.val, by omega⟩) (r : Fin 256) :
    shift (Z ⟨256 + r.val, by omega⟩) (if 1 ≤ r.val then Z ⟨256 + (r.val - 1), by omega⟩ else Z ⟨255, by omega⟩) (p.mu j)
      = p.s b ⟨256 * (2 * q.val + 1) + r.val, by omega⟩ j := by
  unfold Inputs.s Inputs.zprev
  have e : (⟨512 * q.val + (256 + r.val), by omega⟩ : Fin 2048) = ⟨256 * (2 * q.val + 1) + r.val, by omega⟩ :=
    Fin.ext (by show 512 * q.val + (256 + r.val) = 256 * (2 * q.val + 1) + r.val; omega)
  rw [hZ, ← e]
  congr 1
  by_cases h : 1 ≤ r.val
  · rw [if_pos h, hZ, if_pos (by show 1 ≤ 512 * q.val + (256 + r.val); omega)]
    congr 1
    exact Fin.ext (by show 512 * q.val + (256 + (r.val - 1)) = 512 * q.val + (256 + r.val) - 1; omega)
  · rw [if_neg h, hZ, if_pos (by show 1 ≤ 512 * q.val + (256 + r.val); omega)]
    congr 1
    exact Fin.ext (by show 512 * q.val + 255 = 512 * q.val + (256 + r.val) - 1; omega)

variable (hb : Blocks x0 x1 x2 x4 p b q)
include hb

/-- 512 columns of the projection, from column `o` on. -/
theorem proj_at (o : Nat) (ho : o + 512 ≤ 1696)
    (inb : ∀ i, (![0, o] : Fin 2 → Nat) i + (![1024, 512] : Fin 2 → Nat) i ≤ S1024x1792.size i) (r j : Fin 512) :
    (proj x0 x1 (View.ld (Val := Elt Ideal) (e' := .bf16) x2 (Rect.unit (s := S1024x1792) ![0, o] ![1024, 512] inb)) (ix2 r j) : EReal)
      = p.z b ⟨512 * q.val + r.val, by omega⟩ ⟨o + j.val, by omega⟩ := by
  rw [proj_apply]
  unfold Inputs.z
  simp only [hb.x, hb.g]
  refine Finset.sum_congr rfl fun k _ => ?_
  congr 1
  refine (ld_box (e := .bf16) x2 inb k j (by omega) (by omega)).trans ?_
  rw [← hb.w k ⟨o + j.val, by omega⟩]
  congr 2
  exact Fin.ext (Nat.zero_add _)

theorem projLo_at (inb : ∀ i, (![0, 1536] : Fin 2 → Nat) i + (![1024, 256] : Fin 2 → Nat) i ≤ S1024x1792.size i) (r : Fin 512) (j : Fin 160) :
    (k0_pay9 (F := Ideal) x0 x1 (View.ld (Val := Elt Ideal) (e' := .bf16) x2 (Rect.unit (s := S1024x1792) ![0, 1536] ![1024, 256] inb)) (ix2 r ⟨j.val, by omega⟩) : EReal)
      = p.z b ⟨512 * q.val + r.val, by omega⟩ ⟨1536 + j.val, by omega⟩ := by
  rw [projLo_apply]
  unfold Inputs.z
  simp only [hb.x, hb.g]
  refine Finset.sum_congr rfl fun k _ => ?_
  congr 1
  refine (ld_box (e := .bf16) x2 inb k ⟨j.val, by omega⟩ (by omega) (by simp only []; omega)).trans ?_
  rw [← hb.w k ⟨1536 + j.val, by omega⟩]
  congr 2
  exact Fin.ext (Nat.zero_add _)

theorem mu_at (o n : Nat) (inb : ∀ i, (![0, o] : Fin 2 → Nat) i + (![1, n] : Fin 2 → Nat) i ≤ S1x1792.size i) (j : Fin n) (hj : o + j.val < 1696) :
    (View.ld (Val := Elt Ideal) (e' := .f32) x4 (Rect.unit (s := S1x1792) ![0, o] ![1, n] inb) (ix2 0 j) : EReal) = p.mu ⟨o + j.val, hj⟩ := by
  refine (ld_box (e := .f32) x4 inb 0 j (by decide) (by omega)).trans ?_
  exact hb.mu ⟨o + j.val, hj⟩

omit hb in
theorem carry_at (hz : Carry zp p b q) (o n : Nat) (inb : ∀ i, (![0, o] : Fin 2 → Nat) i + (![1, n] : Fin 2 → Nat) i ≤ S1x1792.size i) (j : Fin n) (hj : o + j.val < 1696) :
    (View.ld (Val := Elt Ideal) (e' := .f32) zp (Rect.unit (s := S1x1792) ![0, o] ![1, n] inb) (ix2 0 j) : EReal)
      = if h : 1 ≤ q.val then p.z b ⟨512 * q.val - 1, by omega⟩ ⟨o + j.val, by omega⟩ else 0 := by
  refine (ld_box (e := .f32) zp inb 0 j (by decide) (by omega)).trans ?_
  exact hz ⟨o + j.val, hj⟩

/-- 512 shifted channels of the first half, from channel `o` on. -/
theorem top_at (hz : Carry zp p b q) (o : Nat) (ho : o + 512 ≤ 1696)
    (inb : ∀ i, (![0, o] : Fin 2 → Nat) i + (![1024, 512] : Fin 2 → Nat) i ≤ S1024x1792.size i)
    (inb1 : ∀ i, (![0, o] : Fin 2 → Nat) i + (![1, 512] : Fin 2 → Nat) i ≤ S1x1792.size i) (r : Fin 256) (j : Fin 512) :
    (mix (k0_pay89 (F := Ideal) (proj x0 x1 (View.ld (Val := Elt Ideal) (e' := .bf16) x2 (Rect.unit (s := S1024x1792) ![0, o] ![1024, 512] inb))))
      (View.ld (Val := Elt Ideal) (e' := .f32) zp (Rect.unit (s := S1x1792) ![0, o] ![1, 512] inb1)) (View.ld (Val := Elt Ideal) (e' := .f32) x4 (Rect.unit (s := S1x1792) ![0, o] ![1, 512] inb1)) (ix2 r j) : EReal)
      = p.s b ⟨256 * (2 * q.val) + r.val, by omega⟩ ⟨o + j.val, by omega⟩ := by
  rw [mix_apply, mu_at hb o 512 inb1 j (by omega), ← shift_top _ ⟨o + j.val, by omega⟩ (fun r => proj_at hb o ho inb r j) _
    (carry_at hz o 512 inb1 j (by omega)) r]
  pointwise [k0_pay89]

theorem bot_at (o : Nat) (ho : o + 512 ≤ 1696)
    (inb : ∀ i, (![0, o] : Fin 2 → Nat) i + (![1024, 512] : Fin 2 → Nat) i ≤ S1024x1792.size i)
    (inb1 : ∀ i, (![0, o] : Fin 2 → Nat) i + (![1, 512] : Fin 2 → Nat) i ≤ S1x1792.size i) (r : Fin 256) (j : Fin 512) :
    (mix (k0_pay94 (F := Ideal) (proj x0 x1 (View.ld (Val := Elt Ideal) (e' := .bf16) x2 (Rect.unit (s := S1024x1792) ![0, o] ![1024, 512] inb))))
      (k0_pay95 (F := Ideal) (proj x0 x1 (View.ld (Val := Elt Ideal) (e' := .bf16) x2 (Rect.unit (s := S1024x1792) ![0, o] ![1024, 512] inb))))
      (View.ld (Val := Elt Ideal) (e' := .f32) x4 (Rect.unit (s := S1x1792) ![0, o] ![1, 512] inb1)) (ix2 r j) : EReal)
      = p.s b ⟨256 * (2 * q.val + 1) + r.val, by omega⟩ ⟨o + j.val, by omega⟩ := by
  rw [mix_apply, mu_at hb o 512 inb1 j (by omega), ← shift_bot _ ⟨o + j.val, by omega⟩ (fun r => proj_at hb o ho inb r j) r]
  pointwise [k0_pay94, k0_pay95]

theorem topHalf_of (hz : Carry zp p b q) : (topHalf x0 x1 x2 x4 zp).Of p b ⟨2 * q.val, by omega⟩ where
  lo r i := by
    refine (mixLo_apply _ _ _ r ⟨i.val, by omega⟩).trans ?_
    rw [mu_at hb 1536 256 _ ⟨i.val, by omega⟩ (by simp only []; omega), ← shift_top _ ⟨1536 + i.val, by omega⟩ (fun r => projLo_at hb inb_S1024x1792_S1024x256_0_1536 r i) _
      (carry_at hz 1536 256 inb_S1x1792_S1x256_0_1536 ⟨i.val, by omega⟩ (by simp only []; omega)) r]
    pointwise []
  r r j := (top_at hb hz 0 (by omega) _ _ r j).trans (congrArg _ (Fin.ext (Nat.zero_add _)))
  k r j := top_at hb hz 512 (by omega) _ _ r j
  v r j := top_at hb hz 1024 (by omega) _ _ r j

theorem botHalf_of : (botHalf x0 x1 x2 x4).Of p b ⟨2 * q.val + 1, by omega⟩ where
  lo r i := by
    refine (mixLo_apply _ _ _ r ⟨i.val, by omega⟩).trans ?_
    rw [mu_at hb 1536 256 _ ⟨i.val, by omega⟩ (by simp only []; omega), ← shift_bot _ ⟨1536 + i.val, by omega⟩ (fun r => projLo_at hb inb_S1024x1792_S1024x256_0_1536 r i) r]
    pointwise []
  r r j := (bot_at hb 0 (by omega) _ _ r j).trans (congrArg _ (Fin.ext (Nat.zero_add _)))
  k r j := bot_at hb 512 (by omega) _ _ r j
  v r j := bot_at hb 1024 (by omega) _ _ r j

end

end Cert.PrepKernelIdeal.Tile

end
-- ==== Proof.Prep.Arrays.lean ====
/- What the host lines before the launch leave in each window's array, at an index. -/
module

public import proofs.«01_k».proof.Proof.Prep.Row
public import proofs.«01_k».proof.Proof.Gen.PrepKernelIdeal.Value
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.Routing.OpsOne
public import Idealize.ShloMosaic.Lib.KernelVsHost
public import Idealize.ShloMosaic.Lib.WordCmp

@[expose] public section

set_option maxRecDepth 16384

noncomputable section

namespace Cert.PrepKernelIdeal.RefValue

open Cert.PrepKernelIdeal Cert.PrepKernelIdeal.Gen Idealize.ShloMosaic Idealize.ShloMosaic.TcCoe Idealize.SL.Sem
open Idealize.ShloMosaic.Pipeline (Dat)
open Cert.PrepRow
open scoped BigOperators

open Idealize.ShloMosaic.Routing in
/-- Rows set into a matrix at one start row: row `i` is update row `i - s` where there is one, else the operand's. -/
theorem scatter_rows {α : Type} {A B N : Nat} (d : ScatterDims (⟨2, ![A, B]⟩ : Shape) (⟨1, ![1]⟩ : Shape) (⟨2, ![N, B]⟩ : Shape)) (hu : d.updateWindowDims = [0, 1])
    (hi : d.insertedWindowDims = []) (hd : d.scatterDimsToOperandDims = [0]) (x : (⟨2, ![A, B]⟩ : Shape).Idx → α) (idx : IVec (⟨1, ![1]⟩ : Shape) 32)
    (u : (⟨2, ![N, B]⟩ : Shape).Idx → α) (s : Nat) (hs : ∀ z, (idx z).toInt = (s : Int)) (i : Fin A) (j : Fin B) :
    Host.scatter d (fun _ b => b) x idx u (ix2 i j) = if h : s ≤ i.val ∧ i.val < s + N then u (ix2 ⟨i.val - s, by omega⟩ j) else x (ix2 i j) := by
  have hk : d.sKept = [0, 1] := by
    show (⟨2, ![A, B]⟩ : Shape).kept d.insertedWindowDims = _
    rw [hi]; rfl
  have w0 : ∀ k, d.window k 0 = (k 0).val := fun k => by
    unfold ScatterDims.window
    rw [dif_pos (by rw [hk]; simp)]
    have : d.updateWindowDims[d.sKept.idxOf 0]'(by rw [d.window_length]; exact List.idxOf_lt_length_iff.2 (by rw [hk]; simp)) = 0 := by
      simp only [hu, hk]; rfl
    rw [this]
  have w1 : ∀ k, d.window k 1 = (k 1).val := fun k => by
    unfold ScatterDims.window
    rw [dif_pos (by rw [hk]; simp)]
    have : d.updateWindowDims[d.sKept.idxOf 1]'(by rw [d.window_length]; exact List.idxOf_lt_length_iff.2 (by rw [hk]; simp)) = 1 := by
      simp only [hu, hk]; rfl
    rw [this]
  have s0 : ∀ k, d.start k idx 0 = s := fun k => by
    unfold ScatterDims.start
    rw [dif_pos (by rw [hd]; simp), hs]
  have s1 : ∀ k, d.start k idx 1 = 0 := fun k => by
    unfold ScatterDims.start
    rw [dif_neg (by rw [hd]; simp)]
  have lands : ∀ k, d.resultIdx? k idx = some (ix2 i j) ↔ s + (k 0).val = i.val ∧ (k 1).val = j.val := fun k => by
    refine (resultIdx?_ix2 d k idx i j).trans ?_
    rw [s0, s1, w0, w1]; omega
  by_cases h : s ≤ i.val ∧ i.val < s + N
  · rw [dif_pos h]
    refine scatter_set_hit d x idx u _ _ (fun k hk => congrArg u ?_) (ix2 ⟨i.val - s, by omega⟩ j) ((lands _).2 ⟨?_, rfl⟩)
    · obtain ⟨h0, h1⟩ := (lands k).1 hk
      refine (eq_ix2 k).trans ?_
      congr 1
      · exact Fin.ext (by show (k 0).val = i.val - s; omega)
      · exact Fin.ext h1
    · show s + (i.val - s) = i.val; omega
  · rw [dif_neg h]
    refine scatter_set_miss d x idx u _ fun k hk => h ?_
    obtain ⟨h0, h1⟩ := (lands k).1 hk
    have := (k 0).isLt
    have e : (⟨2, ![N, B]⟩ : Shape).size 0 = N := rfl
    omega

/-- The whole quotient by 64 as the host lines spell it (the quotient, less one where the signs differ and a remainder is left). -/
def div64 (x : BitVec 32) : BitVec 32 :=
  Scalar.select
    (IntOp.andi
      (IntOp.cmpi CmpIPredicate.ne (if x = 0 then (0 : BitVec 32) else if x.msb = true then -1 else 1)
        (if (64#32 : BitVec 32) = 0 then (0 : BitVec 32) else if BitVec.msb 64#32 = true then -1 else 1))
      (IntOp.cmpi CmpIPredicate.ne (IntOp.remsi ArithUnit.host x 64#32) 0#32))
    (IntOp.subi (IntOp.divsi ArithUnit.host x 64#32) 1#32) (IntOp.divsi ArithUnit.host x 64#32)

theorem div64_small : ∀ r : Fin 256, div64 (BitVec.ofNat 32 r.val) = BitVec.ofNat 32 (r.val / 64) := by decide +kernel

theorem same64 (r k : Fin 256) : IntOp.cmpi CmpIPredicate.eq (div64 (BitVec.ofNat 32 r.val)) (div64 (BitVec.ofNat 32 k.val))
    = if r.val / 64 = k.val / 64 then 1#1 else 0#1 := by
  rw [div64_small, div64_small]
  have h : ∀ a b : Fin 4, IntOp.cmpi CmpIPredicate.eq (BitVec.ofNat 32 a.val) (BitVec.ofNat 32 b.val) = if a.val = b.val then 1#1 else 0#1 := by decide
  exact h ⟨r.val / 64, by omega⟩ ⟨k.val / 64, by omega⟩

variable (m : (ℓ : Loc nD τ sig) → Buf (Elt Ideal) ℓ) (ρ : Dev nD → PrngReg)

/-- The launched arrays, by index. -/
def inp (c : Dev nD) : Inputs where
  x b t k := m ((c : Thread nD τ).loc main_arg0) (ix3 b t k)
  g k := m ((c : Thread nD τ).loc main_arg1) (ix2 0 k)
  w k j := m ((c : Thread nD τ).loc main_arg2) (ix3 0 k j)
  mu j := m ((c : Thread nD τ).loc main_arg3) (ix2 0 j)
  db j := m ((c : Thread nD τ).loc main_arg4) (ix2 0 j)
  du i j := m ((c : Thread nD τ).loc main_arg5) (ix3 0 i j)
  ib j := m ((c : Thread nD τ).loc main_arg6) (ix2 0 j)
  iu i j := m ((c : Thread nD τ).loc main_arg7) (ix3 0 i j)
  gu i j := m ((c : Thread nD τ).loc main_arg8) (ix3 0 i j)
  kk j := m ((c : Thread nD τ).loc main_arg9) (ix2 0 j)
  ka j := m ((c : Thread nD τ).loc main_arg10) (ix2 0 j)
  rk j := m ((c : Thread nD τ).loc main_arg11) (ix3 0 ⟨j.val / 64, by omega⟩ ⟨j.val % 64, by omega⟩)

/-! Each window's array as the host lines before the launch leave it. -/

theorem arr_x (c : Dev nD) (i : Fin 32768) (k : Fin 1024) : V m c main_v23 (ix2 i k) = (inp m c).x (batchOf i) (posOf i) k := by
  unfold V; after_reads_at; rfl

theorem arr_g (c : Dev nD) (z : Fin 1) (k : Fin 1024) : V m c main_v51 (ix2 z k) = (inp m c).g k := by
  unfold V; after_reads_at; rfl

theorem arr_w (c : Dev nD) (k : Fin 1024) (j : Fin 1696) : V m c main_v27 (ix2 k ⟨j.val, by omega⟩) = (inp m c).w k ⟨j.val, by omega⟩ := by
  unfold V; after_reads_at; rfl

theorem arr_wg (c : Dev nD) (k : Fin 1024) (j : Fin 1664) :
    V m c main_v31 (ix2 k j) = if h : j.val < 1552 then (inp m c).w k ⟨1696 + j.val, by omega⟩ else (0 : EReal) := by
  unfold V; after_reads_at
  rw [show (FloatOps.sitofp FTy.f32 0#32 : Ideal .f32) = 0 from sitofp_zero]
  rfl

theorem arr_mu (c : Dev nD) (z : Fin 1) (j : Fin 1696) : V m c main_v49 (ix2 z ⟨j.val, by omega⟩) = (inp m c).mu j := by
  unfold V; after_reads_at; rfl

theorem arr_db (c : Dev nD) (z : Fin 1) (j : Fin 512) : V m c main_v53 (ix2 z j) = (inp m c).db j := by
  unfold V; after_reads_at; rfl
theorem arr_ib (c : Dev nD) (z : Fin 1) (j : Fin 512) : V m c main_v55 (ix2 z j) = (inp m c).ib j := by
  unfold V; after_reads_at; rfl
theorem arr_kk (c : Dev nD) (z : Fin 1) (j : Fin 512) : V m c main_v57 (ix2 z j) = (inp m c).kk j := by
  unfold V; after_reads_at; rfl
theorem arr_ka (c : Dev nD) (z : Fin 1) (j : Fin 512) : V m c main_v59 (ix2 z j) = (inp m c).ka j := by
  unfold V; after_reads_at; rfl
theorem arr_rk (c : Dev nD) (z : Fin 1) (j : Fin 512) : V m c main_v61 (ix2 z j) = (inp m c).rk j := by
  unfold V; after_reads_at; rfl

/-- The low-rank weights stand at their own rows of a matrix of zeros. -/
theorem arr_du (c : Dev nD) (i : Fin 256) (j : Fin 512) : V m c main_v36 (ix2 i j) =
    if h : i.val < 32 then (inp m c).du ⟨i.val, h⟩ j else (0 : EReal) := by
  unfold V; after_reads_at
  rw [scatter_rows scatter_S256x512_S1_S32x512_01_n_0_0 rfl rfl rfl _ _ _ 0 (fun _ => rfl)]
  by_cases h : 0 ≤ i.val ∧ i.val < 0 + 32
  · rw [dif_pos h, dif_pos (by omega)]
    rfl
  · rw [dif_neg h, dif_neg (by omega)]
    exact Ideal.ofBits_zero_f32
theorem arr_iu (c : Dev nD) (i : Fin 256) (j : Fin 512) : V m c main_v41 (ix2 i j) =
    if h : 32 ≤ i.val ∧ i.val < 32 + 32 then (inp m c).iu ⟨i.val - 32, by omega⟩ j else (0 : EReal) := by
  unfold V; after_reads_at
  rw [scatter_rows scatter_S256x512_S1_S32x512_01_n_0_0 rfl rfl rfl _ _ _ 32 (fun _ => rfl)]
  by_cases h : 32 ≤ i.val ∧ i.val < 32 + 32
  · rw [dif_pos h, dif_pos h]
    rfl
  · rw [dif_neg h, dif_neg h]
    exact Ideal.ofBits_zero_f32
theorem arr_gu (c : Dev nD) (i : Fin 256) (j : Fin 512) : V m c main_v46 (ix2 i j) =
    if h : 64 ≤ i.val ∧ i.val < 64 + 96 then (inp m c).gu ⟨i.val - 64, by omega⟩ j else (0 : EReal) := by
  unfold V; after_reads_at
  rw [scatter_rows scatter_S256x512_S1_S96x512_01_n_0_0 rfl rfl rfl _ _ _ 64 (fun _ => rfl)]
  by_cases h : 64 ≤ i.val ∧ i.val < 64 + 96
  · rw [dif_pos h, dif_pos h]
    rfl
  · rw [dif_neg h, dif_neg h]
    exact Ideal.ofBits_zero_f32

theorem ones_word (w : BitVec 1) : (FloatOps.uitofp (F := Ideal) FTy.bf16 w : EReal) = if w = 1#1 then 1 else 0 := by
  have h : w = 0#1 ∨ w = 1#1 := by revert w; decide
  rcases h with rfl | rfl
  · show (((0#1 : BitVec 1).toNat : ℝ) : EReal) = _
    simp
  · show (((1#1 : BitVec 1).toNat : ℝ) : EReal) = _
    simp

/-- The two matrices of zeros and ones that the host lines build. -/
theorem arr_ltri (c : Dev nD) (r k : Fin 256) : V m c main_v14 (ix2 r k) = if k.val ≤ r.val ∧ k.val / 64 = r.val / 64 then (1 : EReal) else 0 := by
  have e : (V m c main_v14 (ix2 r k) : EReal) = FloatOps.uitofp (F := Ideal) FTy.bf16 (IntOp.andi
      (IntOp.cmpi CmpIPredicate.eq (div64 (BitVec.ofNat 32 r.val)) (div64 (BitVec.ofNat 32 k.val))) (IntOp.cmpi CmpIPredicate.sge (BitVec.ofNat 32 r.val) (BitVec.ofNat 32 k.val))) := by
    unfold V; after_reads_at
    rfl
  rw [e, same64, WordCmp.cmpi_sge_ofNat (by omega) (by omega), ones_word]
  by_cases h1 : r.val / 64 = k.val / 64 <;> by_cases h2 : k.val ≤ r.val <;> simp [h1, h2, eq_comm, IntOp.andi]

theorem arr_ones (c : Dev nD) (r k : Fin 256) : V m c main_v22 (ix2 r k) = if r.val / 64 = k.val / 64 then (1 : EReal) else 0 := by
  have e : (V m c main_v22 (ix2 r k) : EReal) = FloatOps.uitofp (F := Ideal) FTy.bf16
      (IntOp.cmpi CmpIPredicate.eq (div64 (BitVec.ofNat 32 r.val)) (div64 (BitVec.ofNat 32 k.val))) := by
    unfold V; after_reads_at
    rfl
  rw [e, same64, ones_word]
  by_cases h1 : r.val / 64 = k.val / 64 <;> simp [h1]

end Cert.PrepKernelIdeal.RefValue

end
-- ==== Proof.Prep.Blocks.lean ====
/- Which entries of its array a window's block holds at each grid point. -/
module

public import proofs.«01_k».proof.Proof.Prep.Row
public import proofs.«01_k».proof.Proof.Gen.PrepKernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.PrepKernelIdeal.RefValue

open Cert.PrepKernelIdeal Cert.PrepKernelIdeal.Gen Idealize.ShloMosaic Idealize.ShloMosaic.TcCoe Idealize.SL.Sem
open Idealize.ShloMosaic.Pipeline (Dat)
open Cert.PrepRow
open scoped BigOperators

variable (m : (ℓ : Loc nD τ sig) → Buf (Elt Ideal) ℓ) (ρ : Dev nD → PrngReg)

/-! Which block each window is on at a point, and what the blocks hold. -/

theorem index_in : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0])
theorem index_weights : ∀ t : Fin cfg0.N, win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0])
theorem index_out : ∀ t : Fin cfg0.N, win0_15.index t = ![t.val, 0] ∧ win0_16.index t = ![t.val, 0] ∧ win0_17.index t = ![t.val, 0] ∧ win0_18.index t = ![t.val, 0] ∧ win0_19.index t = ![t.val, 0] ∧ win0_20.index t = ![t.val, 0] :=
  (by decide +kernel : ∀ t : Fin grid0.N, win0_15.index t = ![t.val, 0] ∧ win0_16.index t = ![t.val, 0] ∧ win0_17.index t = ![t.val, 0] ∧ win0_18.index t = ![t.val, 0] ∧ win0_19.index t = ![t.val, 0] ∧ win0_20.index t = ![t.val, 0])
theorem index_out' : ∀ t : Fin cfg0.N, win0_21.index t = ![t.val, 0] ∧ win0_22.index t = ![t.val, 0] ∧ win0_23.index t = ![t.val, 0] ∧ win0_24.index t = ![t.val, 0] ∧ win0_25.index t = ![t.val, 0] :=
  (by decide +kernel : ∀ t : Fin grid0.N, win0_21.index t = ![t.val, 0] ∧ win0_22.index t = ![t.val, 0] ∧ win0_23.index t = ![t.val, 0] ∧ win0_24.index t = ![t.val, 0] ∧ win0_25.index t = ![t.val, 0])

/-- The row of the flattened tokens that row `r` of point `t`'s block is. -/
abbrev rowAt (t : Fin cfg0.N) (r : Fin 512) : Fin 32768 :=
  ⟨t.val * 512 + r.val, by have := t.isLt; have h : cfg0.N = 64 := N_0; omega⟩

/-- The batch row of a point, and which quarter of it the point is. -/
abbrev rowOf (t : Fin cfg0.N) : Fin 16 := ⟨t.val / 4, by have := t.isLt; have h : cfg0.N = 64 := N_0; omega⟩
abbrev quarter (t : Fin cfg0.N) : Fin 4 := ⟨t.val % 4, Nat.mod_lt _ (by omega)⟩

theorem blk_x (c : Dev nD) (t : Fin cfg0.N) (r : Fin 512) (k : Fin 1024) : iblk m c 0 t (ix2 r k) = V m c main_v23 (ix2 (rowAt t r) k) := by
  blk_ext [iblk, index_in t]
theorem blk_1 (c : Dev nD) (t : Fin cfg0.N) (r : Fin 1) (k : Fin 1024) : iblk m c 1 t (ix2 r k) = V m c main_v51 (ix2 r k) := by
  blk_ext [iblk, index_in t]
theorem blk_2 (c : Dev nD) (t : Fin cfg0.N) (r : Fin 1024) (k : Fin 1792) : iblk m c 2 t (ix2 r k) = V m c main_v27 (ix2 r k) := by
  blk_ext [iblk, index_in t]
theorem blk_3 (c : Dev nD) (t : Fin cfg0.N) (r : Fin 1024) (k : Fin 1664) : iblk m c 3 t (ix2 r k) = V m c main_v31 (ix2 r k) := by
  blk_ext [iblk, index_in t]
theorem blk_4 (c : Dev nD) (t : Fin cfg0.N) (r : Fin 1) (k : Fin 1792) : iblk m c 4 t (ix2 r k) = V m c main_v49 (ix2 r k) := by
  blk_ext [iblk, index_in t]
theorem blk_5 (c : Dev nD) (t : Fin cfg0.N) (r : Fin 1) (k : Fin 512) : iblk m c 5 t (ix2 r k) = V m c main_v53 (ix2 r k) := by
  blk_ext [iblk, index_in t]
theorem blk_6 (c : Dev nD) (t : Fin cfg0.N) (r : Fin 256) (k : Fin 512) : iblk m c 6 t (ix2 r k) = V m c main_v36 (ix2 r k) := by
  have e : (((View.whole main_v36).slice (win0_6.rect t)).emb (ix2 r k) : S256x512.Idx) = ix2 r k := by blk_ext [index_in t]
  exact congrArg (V m c main_v36) e
theorem blk_7 (c : Dev nD) (t : Fin cfg0.N) (r : Fin 1) (k : Fin 512) : iblk m c 7 t (ix2 r k) = V m c main_v55 (ix2 r k) := by
  blk_ext [iblk, index_in t]
theorem blk_8 (c : Dev nD) (t : Fin cfg0.N) (r : Fin 256) (k : Fin 512) : iblk m c 8 t (ix2 r k) = V m c main_v41 (ix2 r k) := by
  have e : (((View.whole main_v41).slice (win0_8.rect t)).emb (ix2 r k) : S256x512.Idx) = ix2 r k := by blk_ext [index_weights t]
  exact congrArg (V m c main_v41) e
theorem blk_9 (c : Dev nD) (t : Fin cfg0.N) (r : Fin 256) (k : Fin 512) : iblk m c 9 t (ix2 r k) = V m c main_v46 (ix2 r k) := by
  have e : (((View.whole main_v46).slice (win0_9.rect t)).emb (ix2 r k) : S256x512.Idx) = ix2 r k := by blk_ext [index_weights t]
  exact congrArg (V m c main_v46) e
theorem blk_10 (c : Dev nD) (t : Fin cfg0.N) (r : Fin 1) (k : Fin 512) : iblk m c 10 t (ix2 r k) = V m c main_v57 (ix2 r k) := by
  blk_ext [iblk, index_weights t]
theorem blk_11 (c : Dev nD) (t : Fin cfg0.N) (r : Fin 1) (k : Fin 512) : iblk m c 11 t (ix2 r k) = V m c main_v59 (ix2 r k) := by
  blk_ext [iblk, index_weights t]
theorem blk_12 (c : Dev nD) (t : Fin cfg0.N) (r : Fin 1) (k : Fin 512) : iblk m c 12 t (ix2 r k) = V m c main_v61 (ix2 r k) := by
  blk_ext [iblk, index_weights t]
theorem blk_13 (c : Dev nD) (t : Fin cfg0.N) (r : Fin 256) (k : Fin 256) : iblk m c 13 t (ix2 r k) = V m c main_v22 (ix2 r k) := by
  blk_ext [iblk, index_weights t]
theorem blk_14 (c : Dev nD) (t : Fin cfg0.N) (r : Fin 256) (k : Fin 256) : iblk m c 14 t (ix2 r k) = V m c main_v14 (ix2 r k) := by
  blk_ext [iblk, index_weights t]

end Cert.PrepKernelIdeal.RefValue

end
-- ==== Proof.Prep.Given.lean ====
/- What a grid point is given: its blocks are tokens and weights of the launched arrays. -/
module

public import proofs.«01_k».proof.Proof.Prep.Point
public import proofs.«01_k».proof.Proof.Prep.Arrays
public import proofs.«01_k».proof.Proof.Prep.Blocks
public import proofs.«01_k».proof.Proof.Gen.PrepKernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.PrepKernelIdeal.RefValue

open Cert.PrepKernelIdeal Cert.PrepKernelIdeal.Gen Idealize.ShloMosaic Idealize.ShloMosaic.TcCoe Idealize.SL.Sem
open Idealize.ShloMosaic.Pipeline (Dat)
open Cert.PrepRow Cert.PrepKernelIdeal.Tile
open scoped BigOperators

variable (m : (ℓ : Loc nD τ sig) → Buf (Elt Ideal) ℓ) (ρ : Dev nD → PrngReg)

/-- The weights' blocks of a point. -/
abbrev wts (c : Dev nD) (t : Fin cfg0.N) : Weights :=
  ⟨iblk m c 5 t, iblk m c 6 t, iblk m c 7 t, iblk m c 8 t, iblk m c 9 t, iblk m c 10 t, iblk m c 11 t, iblk m c 12 t, iblk m c 13 t, iblk m c 14 t⟩

/-- A point's token and projection blocks hold its tokens of its batch row. -/
theorem blocks (c : Dev nD) (t : Fin cfg0.N) :
    Blocks (iblk m c 0 t) (iblk m c 1 t) (iblk m c 2 t) (iblk m c 4 t) (inp m c) (rowOf t) (quarter t) where
  x r k := by
    refine ((blk_x m c t r k).trans (arr_x m c _ k)).trans ?_
    have e1 : batchOf (rowAt t r) = rowOf t := Fin.ext (by show (t.val * 512 + r.val) / 2048 = t.val / 4; omega)
    have e2 : posOf (rowAt t r) = ⟨512 * (quarter t).val + r.val, by omega⟩ :=
      Fin.ext (by show (t.val * 512 + r.val) % 2048 = 512 * (t.val % 4) + r.val; omega)
    rw [e1, e2]
  g k := (blk_1 m c t 0 k).trans (arr_g m c 0 k)
  w k j := (blk_2 m c t k _).trans (arr_w m c k j)
  mu j := (blk_4 m c t 0 _).trans (arr_mu m c 0 j)

theorem w_du (c : Dev nD) (t : Fin cfg0.N) (i : Fin 32) (j : Fin 512) :
    (iblk m c 6 t (ix2 (⟨0 + i.val, by omega⟩ : Fin 256) j) : EReal) = (inp m c).du i j := by
  rw [blk_6, arr_du, dif_pos (by show 0 + i.val < 32; omega)]
  congr 1
  exact Fin.ext (Nat.zero_add _)
theorem w_iu (c : Dev nD) (t : Fin cfg0.N) (i : Fin 32) (j : Fin 512) :
    (iblk m c 8 t (ix2 (⟨32 + i.val, by omega⟩ : Fin 256) j) : EReal) = (inp m c).iu i j := by
  rw [blk_8, arr_iu, dif_pos (by show 32 ≤ 32 + i.val ∧ 32 + i.val < 32 + 32; omega)]
  congr 1
  exact Fin.ext (by show 32 + i.val - 32 = i.val; omega)
theorem w_gu (c : Dev nD) (t : Fin cfg0.N) (i : Fin 96) (j : Fin 512) :
    (iblk m c 9 t (ix2 (⟨64 + i.val, by omega⟩ : Fin 256) j) : EReal) = (inp m c).gu i j := by
  rw [blk_9, arr_gu, dif_pos (by show 64 ≤ 64 + i.val ∧ 64 + i.val < 64 + 96; omega)]
  congr 1
  exact Fin.ext (by show 64 + i.val - 64 = i.val; omega)
theorem w_du0 (c : Dev nD) (t : Fin cfg0.N) (i : Fin 256) (j : Fin 512) (h : i.val < 0 ∨ 0 + 32 ≤ i.val) :
    (iblk m c 6 t (ix2 i j) : EReal) = (0 : EReal) := by
  rw [blk_6, arr_du, dif_neg (by omega)]
theorem w_iu0 (c : Dev nD) (t : Fin cfg0.N) (i : Fin 256) (j : Fin 512) (h : i.val < 32 ∨ 32 + 32 ≤ i.val) :
    (iblk m c 8 t (ix2 i j) : EReal) = (0 : EReal) := by
  rw [blk_8, arr_iu, dif_neg (by omega)]
theorem w_gu0 (c : Dev nD) (t : Fin cfg0.N) (i : Fin 256) (j : Fin 512) (h : i.val < 64 ∨ 64 + 96 ≤ i.val) :
    (iblk m c 9 t (ix2 i j) : EReal) = (0 : EReal) := by
  rw [blk_9, arr_gu, dif_neg (by omega)]

theorem w_db (c : Dev nD) (t : Fin cfg0.N) (j : Fin 512) : (iblk m c 5 t (ix2 (0 : Fin 1) j) : EReal) = (inp m c).db j := by
  rw [blk_5, arr_db]
theorem w_ib (c : Dev nD) (t : Fin cfg0.N) (j : Fin 512) : (iblk m c 7 t (ix2 (0 : Fin 1) j) : EReal) = (inp m c).ib j := by
  rw [blk_7, arr_ib]
theorem w_kk (c : Dev nD) (t : Fin cfg0.N) (j : Fin 512) : (iblk m c 10 t (ix2 (0 : Fin 1) j) : EReal) = (inp m c).kk j := by
  rw [blk_10, arr_kk]
theorem w_ka (c : Dev nD) (t : Fin cfg0.N) (j : Fin 512) : (iblk m c 11 t (ix2 (0 : Fin 1) j) : EReal) = (inp m c).ka j := by
  rw [blk_11, arr_ka]
theorem w_rk (c : Dev nD) (t : Fin cfg0.N) (j : Fin 512) : (iblk m c 12 t (ix2 (0 : Fin 1) j) : EReal) = (inp m c).rk j := by
  rw [blk_12, arr_rk]
theorem w_ones (c : Dev nD) (t : Fin cfg0.N) (e j : Fin 256) : (iblk m c 13 t (ix2 e j) : EReal) = if e.val / 64 = j.val / 64 then (1 : EReal) else 0 := by
  rw [blk_13, arr_ones]
theorem w_ltri (c : Dev nD) (t : Fin cfg0.N) (r k : Fin 256) :
    (iblk m c 14 t (ix2 r k) : EReal) = if k.val ≤ r.val ∧ k.val / 64 = r.val / 64 then (1 : EReal) else 0 := by
  rw [blk_14, arr_ltri]

/-- The weights' facts, from those of each block. -/
theorem of_fields {p : PrepRow.Inputs} {db : FVec Ideal S1x512 .f32} {du : FVec Ideal S256x512 .bf16} {ib : FVec Ideal S1x512 .f32}
    {iu gu : FVec Ideal S256x512 .bf16} {kk ka rk : FVec Ideal S1x512 .f32} {ones : FVec Ideal S256x256 .f32} {ltri : FVec Ideal S256x256 .f32}
    (h1 : ∀ j : Fin 512, @Eq EReal (db (ix2 0 j)) (p.db j))
    (h2 : ∀ (i : Fin 32) (j : Fin 512), @Eq EReal (du (ix2 ⟨0 + i.val, by omega⟩ j)) (p.du i j))
    (h3 : ∀ (i : Fin 256) (j : Fin 512), (i.val < 0 ∨ 0 + 32 ≤ i.val) → @Eq EReal (du (ix2 i j)) 0)
    (h4 : ∀ j : Fin 512, @Eq EReal (ib (ix2 0 j)) (p.ib j))
    (h5 : ∀ (i : Fin 32) (j : Fin 512), @Eq EReal (iu (ix2 ⟨32 + i.val, by omega⟩ j)) (p.iu i j))
    (h6 : ∀ (i : Fin 256) (j : Fin 512), (i.val < 32 ∨ 32 + 32 ≤ i.val) → @Eq EReal (iu (ix2 i j)) 0)
    (h7 : ∀ (i : Fin 96) (j : Fin 512), @Eq EReal (gu (ix2 ⟨64 + i.val, by omega⟩ j)) (p.gu i j))
    (h8 : ∀ (i : Fin 256) (j : Fin 512), (i.val < 64 ∨ 64 + 96 ≤ i.val) → @Eq EReal (gu (ix2 i j)) 0)
    (h9 : ∀ j : Fin 512, @Eq EReal (kk (ix2 0 j)) (p.kk j))
    (h10 : ∀ j : Fin 512, @Eq EReal (ka (ix2 0 j)) (p.ka j))
    (h11 : ∀ j : Fin 512, @Eq EReal (rk (ix2 0 j)) (p.rk j))
    (h12 : ∀ e j : Fin 256, @Eq EReal (ones (ix2 e j)) (if e.val / 64 = j.val / 64 then 1 else 0))
    (h13 : ∀ r k : Fin 256, @Eq EReal (ltri (ix2 r k)) (if k.val ≤ r.val ∧ k.val / 64 = r.val / 64 then 1 else 0)) :
    (⟨db, du, ib, iu, gu, kk, ka, rk, ones, ltri⟩ : Weights).Of p :=
  ⟨h1, h2, h3, h4, h5, h6, h7, h8, h9, h10, h11, h12, h13⟩

/-- A point's weight blocks are the launched weights. -/
theorem wts_of (c : Dev nD) (t : Fin cfg0.N) : (wts m c t).Of (inp m c) :=
  of_fields (w_db m c t) (w_du m c t) (w_du0 m c t) (w_ib m c t) (w_iu m c t) (w_iu0 m c t) (w_gu m c t) (w_gu0 m c t) (w_kk m c t) (w_ka m c t)
    (w_rk m c t) (w_ones m c t) (w_ltri m c t)

end Cert.PrepKernelIdeal.RefValue

end
-- ==== Proof.Prep.Store.lean ====
/- What a list of stores leaves at an index: boxes of a matrix stored one after the other. -/
module

public import proofs.«01_k».proof.Proof.Prep.Point
public import Idealize.ShloMosaic.Lib.Pipeline.ReadBack

@[expose] public section

set_option maxRecDepth 16384

noncomputable section

namespace Cert.PrepKernelIdeal.Tile

open Cert.PrepKernelIdeal Cert.PrepKernelIdeal.Gen Idealize.ShloMosaic

/-- The stores leave the matrix `G` at the entries where `P` holds. -/
def Leaves {a w : Nat} {e : EltTy} (P : Nat → Nat → Prop) (L : List (View.Piece (Elt Ideal) (⟨2, ![a, w]⟩ : Shape) e)) (G : Fin a → Fin w → Elt Ideal e) : Prop :=
  ∀ (r : Fin a) (j : Fin w), P r.val j.val → View.canon L (ix2 r j) = G r j

theorem Leaves.none {a w : Nat} {e : EltTy} {P : Nat → Nat → Prop} {G : Fin a → Fin w → Elt Ideal e}
    (h : ∀ (r : Fin a) (j : Fin w), ¬ P r.val j.val) : Leaves P [] G := fun r j hP => absurd hP (h r j)

/-- The last store decides inside its box, the earlier ones outside. -/
theorem Leaves.box {a w o p n k : Nat} {e : EltTy}
    {inb : ∀ i, (![o, p] : Fin 2 → Nat) i + (![n, k] : Fin 2 → Nat) i ≤ (⟨2, ![a, w]⟩ : Shape).size i}
    {A : (⟨2, ![n, k]⟩ : Shape).Idx → Elt Ideal e} {L : List (View.Piece (Elt Ideal) (⟨2, ![a, w]⟩ : Shape) e)} {P : Nat → Nat → Prop}
    {G : Fin a → Fin w → Elt Ideal e}
    (hA : ∀ (s : Fin n) (i : Fin k) (hs : o + s.val < a) (hi : p + i.val < w), P (o + s.val) (p + i.val) → A (ix2 s i) = G ⟨o + s.val, hs⟩ ⟨p + i.val, hi⟩)
    (hL : Leaves (fun r j => P r j ∧ ¬(o ≤ r ∧ r < o + n ∧ p ≤ j ∧ j < p + k)) L G) :
    Leaves P (⟨Rect.unit (s := (⟨2, ![a, w]⟩ : Shape)) ![o, p] ![n, k] inb, A⟩ :: L) G := by
  intro r j hP
  by_cases h : o ≤ r.val ∧ r.val < o + n ∧ p ≤ j.val ∧ j.val < p + k
  · have hr : o + (r.val - o) < a := by omega
    have hj : p + (j.val - p) < w := by omega
    have e1 : (ix2 r j : (⟨2, ![a, w]⟩ : Shape).Idx)
        = (Rect.unit (s := (⟨2, ![a, w]⟩ : Shape)) ![o, p] ![n, k] inb).emb (ix2 (⟨r.val - o, by omega⟩ : Fin n) (⟨j.val - p, by omega⟩ : Fin k)) := by
      funext i
      apply Fin.ext
      match i with
      | ⟨0, _⟩ => show r.val = o + 1 * (r.val - o); omega
      | ⟨1, _⟩ => show j.val = p + 1 * (j.val - p); omega
    rw [e1]
    refine (View.canon_cons_emb (Val := Elt Ideal) (Rect.unit (s := (⟨2, ![a, w]⟩ : Shape)) ![o, p] ![n, k] inb) A L _).trans ?_
    have hP' : P (o + (r.val - o)) (p + (j.val - p)) := by
      rw [show o + (r.val - o) = r.val by omega, show p + (j.val - p) = j.val by omega]; exact hP
    refine (hA ⟨r.val - o, by omega⟩ ⟨j.val - p, by omega⟩ hr hj hP').trans ?_
    congr 1 <;> exact Fin.ext (by simp only []; omega)
  · refine (View.canon_cons_of_not_mem (Val := Elt Ideal) _ L fun hm => h ?_).trans (hL r j ⟨hP, h⟩)
    have h0 := (Rect.mem_set_unit (s := (⟨2, ![a, w]⟩ : Shape)) (inb := inb)).mp hm (0 : Fin 2)
    have h1 := (Rect.mem_set_unit (s := (⟨2, ![a, w]⟩ : Shape)) (inb := inb)).mp hm (1 : Fin 2)
    exact ⟨h0.1, h0.2, h1.1, h1.2⟩

/-- Two tiles of 256 rows: the halves of a point. -/
theorem canon_two {e : EltTy} {q : Fin 4} {inb1 : ∀ i, (![256, 0] : Fin 2 → Nat) i + (![256, 512] : Fin 2 → Nat) i ≤ S512x512.size i}
    {inb0 : ∀ i, (![0, 0] : Fin 2 → Nat) i + (![256, 512] : Fin 2 → Nat) i ≤ S512x512.size i} {A B : S256x512.Idx → Elt Ideal e}
    {F : Fin 2048 → Fin 512 → Elt Ideal e}
    (hA : ∀ (r : Fin 256) j, A (ix2 r j) = F (Half.tok ⟨2 * q.val, by omega⟩ r) j)
    (hB : ∀ (r : Fin 256) j, B (ix2 r j) = F (Half.tok ⟨2 * q.val + 1, by omega⟩ r) j) (r j : Fin 512) :
    View.canon (Val := Elt Ideal) (s := S512x512) [⟨Rect.unit (s := S512x512) ![256, 0] ![256, 512] inb1, B⟩, ⟨Rect.unit (s := S512x512) ![0, 0] ![256, 512] inb0, A⟩] (ix2 r j)
      = F ⟨512 * q.val + r.val, by omega⟩ j := by
  have key : ∀ (x y : Fin 2048) (i i' : Fin 512), x.val = y.val → i.val = i'.val → F x i = F y i' := fun x y i i' hx hi => by
    rw [Fin.ext hx, Fin.ext hi]
  refine (?_ : Leaves (fun _ _ => True) _ (fun r j => F ⟨512 * q.val + r.val, by omega⟩ j)) r j trivial
  refine Leaves.box (fun s i hs hi _ => (hB s i).trans (key _ _ _ _ (by simp only [Half.tok]; omega) (Nat.zero_add _).symm)) ?_
  refine Leaves.box (fun s i hs hi _ => (hA s i).trans (key _ _ _ _ (by simp only [Half.tok]; omega) (Nat.zero_add _).symm)) ?_
  refine Leaves.none fun r j h => ?_
  have := r.isLt; have := j.isLt; omega

/-- Eight tiles of 64 rows: the chunks of a point, four of each half. -/
theorem canon_eight {e : EltTy} {q : Fin 4} {inb7 inb6 inb5 inb4 inb3 inb2 inb1 inb0} {A0 A1 A2 A3 B0 B1 B2 B3 : S64x512.Idx → Elt Ideal e}
    {F : Fin 2048 → Fin 512 → Elt Ideal e}
    (h0 : ∀ (s : Fin 64) j, A0 (ix2 s j) = F (Half.tok ⟨2 * q.val, by omega⟩ ⟨64 * (0 : Fin 4).val + s.val, by omega⟩) j)
    (h1 : ∀ (s : Fin 64) j, A1 (ix2 s j) = F (Half.tok ⟨2 * q.val, by omega⟩ ⟨64 * (1 : Fin 4).val + s.val, by omega⟩) j)
    (h2 : ∀ (s : Fin 64) j, A2 (ix2 s j) = F (Half.tok ⟨2 * q.val, by omega⟩ ⟨64 * (2 : Fin 4).val + s.val, by omega⟩) j)
    (h3 : ∀ (s : Fin 64) j, A3 (ix2 s j) = F (Half.tok ⟨2 * q.val, by omega⟩ ⟨64 * (3 : Fin 4).val + s.val, by omega⟩) j)
    (h4 : ∀ (s : Fin 64) j, B0 (ix2 s j) = F (Half.tok ⟨2 * q.val + 1, by omega⟩ ⟨64 * (0 : Fin 4).val + s.val, by omega⟩) j)
    (h5 : ∀ (s : Fin 64) j, B1 (ix2 s j) = F (Half.tok ⟨2 * q.val + 1, by omega⟩ ⟨64 * (1 : Fin 4).val + s.val, by omega⟩) j)
    (h6 : ∀ (s : Fin 64) j, B2 (ix2 s j) = F (Half.tok ⟨2 * q.val + 1, by omega⟩ ⟨64 * (2 : Fin 4).val + s.val, by omega⟩) j)
    (h7 : ∀ (s : Fin 64) j, B3 (ix2 s j) = F (Half.tok ⟨2 * q.val + 1, by omega⟩ ⟨64 * (3 : Fin 4).val + s.val, by omega⟩) j) (r j : Fin 512) :
    View.canon (Val := Elt Ideal) (s := S512x512)
      [⟨Rect.unit (s := S512x512) ![448, 0] ![64, 512] inb7, B3⟩, ⟨Rect.unit (s := S512x512) ![384, 0] ![64, 512] inb6, B2⟩,
       ⟨Rect.unit (s := S512x512) ![320, 0] ![64, 512] inb5, B1⟩, ⟨Rect.unit (s := S512x512) ![256, 0] ![64, 512] inb4, B0⟩,
       ⟨Rect.unit (s := S512x512) ![192, 0] ![64, 512] inb3, A3⟩, ⟨Rect.unit (s := S512x512) ![128, 0] ![64, 512] inb2, A2⟩,
       ⟨Rect.unit (s := S512x512) ![64, 0] ![64, 512] inb1, A1⟩, ⟨Rect.unit (s := S512x512) ![0, 0] ![64, 512] inb0, A0⟩] (ix2 r j)
      = F ⟨512 * q.val + r.val, by omega⟩ j := by
  have key : ∀ (x y : Fin 2048) (i i' : Fin 512), x.val = y.val → i.val = i'.val → F x i = F y i' := fun x y i i' hx hi => by
    rw [Fin.ext hx, Fin.ext hi]
  refine (?_ : Leaves (fun _ _ => True) _ (fun r j => F ⟨512 * q.val + r.val, by omega⟩ j)) r j trivial
  refine Leaves.box (fun s i hs hi _ => (h7 s i).trans (key _ _ _ _ (by simp [Half.tok]; omega) (Nat.zero_add _).symm)) ?_
  refine Leaves.box (fun s i hs hi _ => (h6 s i).trans (key _ _ _ _ (by simp [Half.tok]; omega) (Nat.zero_add _).symm)) ?_
  refine Leaves.box (fun s i hs hi _ => (h5 s i).trans (key _ _ _ _ (by simp [Half.tok]; omega) (Nat.zero_add _).symm)) ?_
  refine Leaves.box (fun s i hs hi _ => (h4 s i).trans (key _ _ _ _ (by simp [Half.tok]; omega) (Nat.zero_add _).symm)) ?_
  refine Leaves.box (fun s i hs hi _ => (h3 s i).trans (key _ _ _ _ (by simp [Half.tok]; omega) (Nat.zero_add _).symm)) ?_
  refine Leaves.box (fun s i hs hi _ => (h2 s i).trans (key _ _ _ _ (by simp [Half.tok]; omega) (Nat.zero_add _).symm)) ?_
  refine Leaves.box (fun s i hs hi _ => (h1 s i).trans (key _ _ _ _ (by simp [Half.tok]; omega) (Nat.zero_add _).symm)) ?_
  refine Leaves.box (fun s i hs hi _ => (h0 s i).trans (key _ _ _ _ (by simp [Half.tok]; omega) (Nat.zero_add _).symm)) ?_
  refine Leaves.none fun r j h => ?_
  have := r.isLt; have := j.isLt; omega

/-- Eight rows: the chunks' decays of a point. -/
theorem canon_rows {q : Fin 4} {inb7 inb6 inb5 inb4 inb3 inb2 inb1 inb0} {A0 A1 A2 A3 B0 B1 B2 B3 : S1x512.Idx → Elt Ideal .f32}
    {F : Fin 32 → Fin 512 → Elt Ideal .f32}
    (h0 : ∀ (s : Fin 1) j, A0 (ix2 s j) = F ⟨4 * (2 * q.val) + (0 : Fin 4).val, by omega⟩ j)
    (h1 : ∀ (s : Fin 1) j, A1 (ix2 s j) = F ⟨4 * (2 * q.val) + (1 : Fin 4).val, by omega⟩ j)
    (h2 : ∀ (s : Fin 1) j, A2 (ix2 s j) = F ⟨4 * (2 * q.val) + (2 : Fin 4).val, by omega⟩ j)
    (h3 : ∀ (s : Fin 1) j, A3 (ix2 s j) = F ⟨4 * (2 * q.val) + (3 : Fin 4).val, by omega⟩ j)
    (h4 : ∀ (s : Fin 1) j, B0 (ix2 s j) = F ⟨4 * (2 * q.val + 1) + (0 : Fin 4).val, by omega⟩ j)
    (h5 : ∀ (s : Fin 1) j, B1 (ix2 s j) = F ⟨4 * (2 * q.val + 1) + (1 : Fin 4).val, by omega⟩ j)
    (h6 : ∀ (s : Fin 1) j, B2 (ix2 s j) = F ⟨4 * (2 * q.val + 1) + (2 : Fin 4).val, by omega⟩ j)
    (h7 : ∀ (s : Fin 1) j, B3 (ix2 s j) = F ⟨4 * (2 * q.val + 1) + (3 : Fin 4).val, by omega⟩ j) (r : Fin 8) (j : Fin 512) :
    View.canon (Val := Elt Ideal) (s := S8x512) (e := .f32)
      [⟨Rect.unit (s := S8x512) ![7, 0] ![1, 512] inb7, B3⟩, ⟨Rect.unit (s := S8x512) ![6, 0] ![1, 512] inb6, B2⟩,
       ⟨Rect.unit (s := S8x512) ![5, 0] ![1, 512] inb5, B1⟩, ⟨Rect.unit (s := S8x512) ![4, 0] ![1, 512] inb4, B0⟩,
       ⟨Rect.unit (s := S8x512) ![3, 0] ![1, 512] inb3, A3⟩, ⟨Rect.unit (s := S8x512) ![2, 0] ![1, 512] inb2, A2⟩,
       ⟨Rect.unit (s := S8x512) ![1, 0] ![1, 512] inb1, A1⟩, ⟨Rect.unit (s := S8x512) ![0, 0] ![1, 512] inb0, A0⟩] (ix2 r j)
      = F ⟨8 * q.val + r.val, by omega⟩ j := by
  have key : ∀ (x y : Fin 32) (i i' : Fin 512), x.val = y.val → i.val = i'.val → F x i = F y i' := fun x y i i' hx hi => by
    rw [Fin.ext hx, Fin.ext hi]
  refine (?_ : Leaves (fun _ _ => True) _ (fun r j => F ⟨8 * q.val + r.val, by omega⟩ j)) r j trivial
  refine Leaves.box (fun s i hs hi _ => (h7 s i).trans (key _ _ _ _ (by simp; try omega) (Nat.zero_add _).symm)) ?_
  refine Leaves.box (fun s i hs hi _ => (h6 s i).trans (key _ _ _ _ (by simp; try omega) (Nat.zero_add _).symm)) ?_
  refine Leaves.box (fun s i hs hi _ => (h5 s i).trans (key _ _ _ _ (by simp; try omega) (Nat.zero_add _).symm)) ?_
  refine Leaves.box (fun s i hs hi _ => (h4 s i).trans (key _ _ _ _ (by simp; try omega) (Nat.zero_add _).symm)) ?_
  refine Leaves.box (fun s i hs hi _ => (h3 s i).trans (key _ _ _ _ (by simp; try omega) (Nat.zero_add _).symm)) ?_
  refine Leaves.box (fun s i hs hi _ => (h2 s i).trans (key _ _ _ _ (by simp; try omega) (Nat.zero_add _).symm)) ?_
  refine Leaves.box (fun s i hs hi _ => (h1 s i).trans (key _ _ _ _ (by simp; try omega) (Nat.zero_add _).symm)) ?_
  refine Leaves.box (fun s i hs hi _ => (h0 s i).trans (key _ _ _ _ (by simp; try omega) (Nat.zero_add _).symm)) ?_
  refine Leaves.none fun r j h => ?_
  have := r.isLt; have := j.isLt; omega

/-- The carried row: the last token's projected channels, in four boxes. -/
theorem canon_carry {inb5 inb4 inb3 inb2} {A5 : S1x256.Idx → Elt Ideal .f32} {A4 A3 A2 : S1x512.Idx → Elt Ideal .f32}
    {L : List (View.Piece (Elt Ideal) S1x1792 .f32)} {f : Fin 1696 → Elt Ideal .f32}
    (h5 : ∀ i : Fin 160, A5 (ix2 0 ⟨i.val, by omega⟩) = f ⟨1536 + i.val, by omega⟩)
    (h4 : ∀ i : Fin 512, A4 (ix2 0 i) = f ⟨1024 + i.val, by omega⟩)
    (h3 : ∀ i : Fin 512, A3 (ix2 0 i) = f ⟨512 + i.val, by omega⟩)
    (h2 : ∀ i : Fin 512, A2 (ix2 0 i) = f ⟨0 + i.val, by omega⟩) (j : Fin 1696) :
    View.canon (Val := Elt Ideal) (s := S1x1792) (e := .f32)
      (⟨Rect.unit (s := S1x1792) ![0, 1536] ![1, 256] inb5, A5⟩ :: ⟨Rect.unit (s := S1x1792) ![0, 1024] ![1, 512] inb4, A4⟩
        :: ⟨Rect.unit (s := S1x1792) ![0, 512] ![1, 512] inb3, A3⟩ :: ⟨Rect.unit (s := S1x1792) ![0, 0] ![1, 512] inb2, A2⟩ :: L) (ix2 0 ⟨j.val, by omega⟩)
      = f j := by
  refine ((?_ : Leaves (fun _ j => j < 1696) _ (fun (_ : Fin 1) (j : Fin 1792) => if h : j.val < 1696 then f ⟨j.val, h⟩ else A2 (ix2 0 0))) (0 : Fin 1) ⟨j.val, by omega⟩ j.isLt).trans
    (dif_pos j.isLt)
  refine Leaves.box (fun s i hs hi hP => ?_) ?_
  · obtain rfl : s = 0 := Subsingleton.elim _ _
    rw [dif_pos hP]
    exact h5 ⟨i.val, by omega⟩
  refine Leaves.box (fun s i hs hi hP => ?_) ?_
  · obtain rfl : s = 0 := Subsingleton.elim _ _
    rw [dif_pos hP.1]
    exact h4 i
  refine Leaves.box (fun s i hs hi hP => ?_) ?_
  · obtain rfl : s = 0 := Subsingleton.elim _ _
    rw [dif_pos hP.1.1]
    exact h3 i
  refine Leaves.box (fun s i hs hi hP => ?_) ?_
  · obtain rfl : s = 0 := Subsingleton.elim _ _
    rw [dif_pos hP.1.1.1]
    exact h2 i
  intro r j h
  have := r.isLt; have := j.isLt; omega

/-- Seven column blocks of all the rows. -/
theorem canon_cols {inb6 inb5 inb4 inb3 inb2 inb1 inb0} {A6 : S512x128.Idx → Elt Ideal .f32} {A5 A4 A3 A2 A1 A0 : S512x256.Idx → Elt Ideal .f32}
    {G : Fin 512 → Fin 1664 → Elt Ideal .f32}
    (h6 : ∀ r (i : Fin 128), A6 (ix2 r i) = G r ⟨1536 + i.val, by omega⟩)
    (h5 : ∀ r (i : Fin 256), A5 (ix2 r i) = G r ⟨1280 + i.val, by omega⟩)
    (h4 : ∀ r (i : Fin 256), A4 (ix2 r i) = G r ⟨1024 + i.val, by omega⟩)
    (h3 : ∀ r (i : Fin 256), A3 (ix2 r i) = G r ⟨768 + i.val, by omega⟩)
    (h2 : ∀ r (i : Fin 256), A2 (ix2 r i) = G r ⟨512 + i.val, by omega⟩)
    (h1 : ∀ r (i : Fin 256), A1 (ix2 r i) = G r ⟨256 + i.val, by omega⟩)
    (h0 : ∀ r (i : Fin 256), A0 (ix2 r i) = G r ⟨0 + i.val, by omega⟩) (r : Fin 512) (j : Fin 1664) :
    View.canon (Val := Elt Ideal) (s := S512x1664) (e := .f32)
      [⟨Rect.unit (s := S512x1664) ![0, 1536] ![512, 128] inb6, A6⟩, ⟨Rect.unit (s := S512x1664) ![0, 1280] ![512, 256] inb5, A5⟩,
       ⟨Rect.unit (s := S512x1664) ![0, 1024] ![512, 256] inb4, A4⟩, ⟨Rect.unit (s := S512x1664) ![0, 768] ![512, 256] inb3, A3⟩,
       ⟨Rect.unit (s := S512x1664) ![0, 512] ![512, 256] inb2, A2⟩, ⟨Rect.unit (s := S512x1664) ![0, 256] ![512, 256] inb1, A1⟩,
       ⟨Rect.unit (s := S512x1664) ![0, 0] ![512, 256] inb0, A0⟩] (ix2 r j) = G r j := by
  have key : ∀ (x y : Fin 512) (i : Fin 1664), x.val = y.val → G x i = G y i := fun x y i hx => by rw [Fin.ext hx]
  refine (?_ : Leaves (fun _ _ => True) _ G) r j trivial
  refine Leaves.box (fun s i hs hi _ => (h6 s i).trans (key _ _ _ (Nat.zero_add _).symm)) ?_
  refine Leaves.box (fun s i hs hi _ => (h5 s i).trans (key _ _ _ (Nat.zero_add _).symm)) ?_
  refine Leaves.box (fun s i hs hi _ => (h4 s i).trans (key _ _ _ (Nat.zero_add _).symm)) ?_
  refine Leaves.box (fun s i hs hi _ => (h3 s i).trans (key _ _ _ (Nat.zero_add _).symm)) ?_
  refine Leaves.box (fun s i hs hi _ => (h2 s i).trans (key _ _ _ (Nat.zero_add _).symm)) ?_
  refine Leaves.box (fun s i hs hi _ => (h1 s i).trans (key _ _ _ (Nat.zero_add _).symm)) ?_
  refine Leaves.box (fun s i hs hi _ => (h0 s i).trans (key _ _ _ (Nat.zero_add _).symm)) ?_
  refine Leaves.none fun r j h => ?_
  have := r.isLt; have := j.isLt; omega

end Cert.PrepKernelIdeal.Tile

end
-- ==== Proof.Prep.Carry.lean ====
/- What a grid point carries to the next: the last token's projected channels (`last_row`, `carry_first`, `carry_next`). -/
module

public import proofs.«01_k».proof.Proof.Prep.Given
public import proofs.«01_k».proof.Proof.Prep.Store

@[expose] public section

set_option maxRecDepth 16384

noncomputable section

namespace Cert.PrepKernelIdeal.RefValue

open Cert.PrepKernelIdeal Cert.PrepKernelIdeal.Gen Cert.PrepKernelIdeal.Tile Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

theorem pay2_apply (x : FVec Ideal S512x512 .f32) (j : Fin 512) : (k0_pay2 (F := Ideal) x (ix2 0 j) : EReal) = x (ix2 ⟨511, by omega⟩ j) := by
  pointwise [k0_pay2]
theorem pay5_apply (x : FVec Ideal S512x256 .f32) (j : Fin 256) : (k0_pay5 (F := Ideal) x (ix2 0 j) : EReal) = x (ix2 ⟨511, by omega⟩ j) := by
  pointwise [k0_pay5]
theorem pay6_apply (j : Fin 1792) : (k0_pay6 (F := Ideal) (ix2 0 j) : EReal) = 0 := by
  pointwise [k0_pay6]

/-- A point leaves the projected channels of its last token. -/
theorem last_row (c : Dev nD) (t : Fin cfg0.N) (j : Fin 1696) :
    @Eq EReal ((outsAt0 m c t.val t.isLt).2.2.2.2.2.2.2.2.2.2.2 (ix2 0 ⟨j.val, by omega⟩)) ((inp m c).z (rowOf t) ⟨512 * (quarter t).val + 511, by omega⟩ ⟨j.val, by omega⟩) := by
  have hb := blocks m c t
  by_cases h : t.val % 4 = 0
  · rw [outsAt0_A m c t h]
    frame_out [View.readCov_fill, read_unread_whole]
    exact canon_carry (f := fun j => (inp m c).z (rowOf t) ⟨512 * (quarter t).val + 511, by omega⟩ ⟨j.val, by omega⟩)
      (fun i => (pay5_apply _ _).trans (projLo_at hb _ ⟨511, by omega⟩ i)) (fun i => (pay2_apply _ i).trans (proj_at hb 1024 (by omega) _ ⟨511, by omega⟩ i))
      (fun i => (pay2_apply _ i).trans (proj_at hb 512 (by omega) _ ⟨511, by omega⟩ i)) (fun i => (pay2_apply _ i).trans (proj_at hb 0 (by omega) _ ⟨511, by omega⟩ i)) j
  · rw [outsAt0_B m c t h]
    frame_out [View.readCov_fill, read_unread_whole]
    exact canon_carry (f := fun j => (inp m c).z (rowOf t) ⟨512 * (quarter t).val + 511, by omega⟩ ⟨j.val, by omega⟩)
      (fun i => (pay5_apply _ _).trans (projLo_at hb _ ⟨511, by omega⟩ i)) (fun i => (pay2_apply _ i).trans (proj_at hb 1024 (by omega) _ ⟨511, by omega⟩ i))
      (fun i => (pay2_apply _ i).trans (proj_at hb 512 (by omega) _ ⟨511, by omega⟩ i)) (fun i => (pay2_apply _ i).trans (proj_at hb 0 (by omega) _ ⟨511, by omega⟩ i)) j

/-- The first point of a batch row starts from zeros, -/
theorem carry_first (c : Dev nD) (t : Fin cfg0.N) (h : t.val % 4 = 0) : Carry (k0_pay6 (F := Ideal)) (inp m c) (rowOf t) (quarter t) := fun j => by
  rw [pay6_apply, dif_neg (by show ¬ 1 ≤ t.val % 4; omega)]

/-- the others from the row the point before left. -/
theorem carry_next (c : Dev nD) (t : Fin cfg0.N) (h : ¬ t.val % 4 = 0) :
    Carry (outsAt0 m c (t.val - 1) (Nat.lt_of_le_of_lt (Nat.sub_le _ _) t.isLt)).2.2.2.2.2.2.2.2.2.2.2 (inp m c) (rowOf t) (quarter t) := fun j => by
  rw [dif_pos (by show 1 ≤ t.val % 4; omega)]
  refine (last_row m c ⟨t.val - 1, Nat.lt_of_le_of_lt (Nat.sub_le _ _) t.isLt⟩ j).trans ?_
  congr 1
  · exact Fin.ext (by show (t.val - 1) / 4 = t.val / 4; omega)
  · exact Fin.ext (by show 512 * ((t.val - 1) % 4) + 511 = 512 * (t.val % 4) - 1; omega)

end Cert.PrepKernelIdeal.RefValue

end
-- ==== Proof.Prep.HalvesA.lean ====
/- What a grid point leaves in the blocks it stores in two halves: the operands at the chunks' starts. -/
module

public import proofs.«01_k».proof.Proof.Prep.Carry

@[expose] public section

set_option maxRecDepth 16384

noncomputable section

namespace Cert.PrepKernelIdeal.RefValue

open Cert.PrepKernelIdeal Cert.PrepKernelIdeal.Gen Cert.PrepKernelIdeal.Tile Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

theorem out_remIn (c : Dev nD) (t : Fin cfg0.N) (r j : Fin 512) :
    @Eq EReal ((outsAt0 m c t.val t.isLt).1 (ix2 r j)) ((inp m c).remIn (rowOf t) ⟨512 * (quarter t).val + r.val, by omega⟩ j) := by
  have hw : (⟨iblk m c 5 t, iblk m c 6 t, iblk m c 7 t, iblk m c 8 t, iblk m c 9 t, iblk m c 10 t, iblk m c 11 t, iblk m c 12 t,
      iblk m c 13 t, iblk m c 14 t⟩ : Weights).Of (inp m c) := wts_of m c t
  have hb := blocks m c t
  by_cases h : t.val % 4 = 0
  · have hz := carry_first m c t h
    rw [outsAt0_A m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (k0_pay6 (F := Ideal)) = zp at hz ⊢
    exact canon_two (e := .bf16) (F := fun s j => (inp m c).remIn (rowOf t) s j)
      (fun r j => (congrFun (rfl : _ = (topHalf x0 x1 x2 x4 zp).remIn ⟨x5, x6, x7, x8, x9, x10, x11, x12, x13, x14⟩) (ix2 r j)).trans (Half.remIn_at hw (topHalf_of hb hz) r j))
      (fun r j => (congrFun (rfl : _ = (botHalf x0 x1 x2 x4).remIn ⟨x5, x6, x7, x8, x9, x10, x11, x12, x13, x14⟩) (ix2 r j)).trans (Half.remIn_at hw (botHalf_of hb) r j)) r j
  · have hz := carry_next m c t h
    rw [outsAt0_B m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (outsAt0 m c (t.val - 1) (Nat.lt_of_le_of_lt (Nat.sub_le _ _) t.isLt)).2.2.2.2.2.2.2.2.2.2.2 = zp at hz ⊢
    exact canon_two (e := .bf16) (F := fun s j => (inp m c).remIn (rowOf t) s j)
      (fun r j => (congrFun (rfl : _ = (topHalf x0 x1 x2 x4 zp).remIn ⟨x5, x6, x7, x8, x9, x10, x11, x12, x13, x14⟩) (ix2 r j)).trans (Half.remIn_at hw (topHalf_of hb hz) r j))
      (fun r j => (congrFun (rfl : _ = (botHalf x0 x1 x2 x4).remIn ⟨x5, x6, x7, x8, x9, x10, x11, x12, x13, x14⟩) (ix2 r j)).trans (Half.remIn_at hw (botHalf_of hb) r j)) r j

theorem out_rIn (c : Dev nD) (t : Fin cfg0.N) (r j : Fin 512) :
    @Eq EReal ((outsAt0 m c t.val t.isLt).2.1 (ix2 r j)) ((inp m c).rIn (rowOf t) ⟨512 * (quarter t).val + r.val, by omega⟩ j) := by
  have hw : (⟨iblk m c 5 t, iblk m c 6 t, iblk m c 7 t, iblk m c 8 t, iblk m c 9 t, iblk m c 10 t, iblk m c 11 t, iblk m c 12 t,
      iblk m c 13 t, iblk m c 14 t⟩ : Weights).Of (inp m c) := wts_of m c t
  have hb := blocks m c t
  by_cases h : t.val % 4 = 0
  · have hz := carry_first m c t h
    rw [outsAt0_A m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (k0_pay6 (F := Ideal)) = zp at hz ⊢
    exact canon_two (e := .bf16) (F := fun s j => (inp m c).rIn (rowOf t) s j)
      (fun r j => (congrFun (rfl : _ = (topHalf x0 x1 x2 x4 zp).rIn ⟨x5, x6, x7, x8, x9, x10, x11, x12, x13, x14⟩) (ix2 r j)).trans (Half.rIn_at hw (topHalf_of hb hz) r j))
      (fun r j => (congrFun (rfl : _ = (botHalf x0 x1 x2 x4).rIn ⟨x5, x6, x7, x8, x9, x10, x11, x12, x13, x14⟩) (ix2 r j)).trans (Half.rIn_at hw (botHalf_of hb) r j)) r j
  · have hz := carry_next m c t h
    rw [outsAt0_B m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (outsAt0 m c (t.val - 1) (Nat.lt_of_le_of_lt (Nat.sub_le _ _) t.isLt)).2.2.2.2.2.2.2.2.2.2.2 = zp at hz ⊢
    exact canon_two (e := .bf16) (F := fun s j => (inp m c).rIn (rowOf t) s j)
      (fun r j => (congrFun (rfl : _ = (topHalf x0 x1 x2 x4 zp).rIn ⟨x5, x6, x7, x8, x9, x10, x11, x12, x13, x14⟩) (ix2 r j)).trans (Half.rIn_at hw (topHalf_of hb hz) r j))
      (fun r j => (congrFun (rfl : _ = (botHalf x0 x1 x2 x4).rIn ⟨x5, x6, x7, x8, x9, x10, x11, x12, x13, x14⟩) (ix2 r j)).trans (Half.rIn_at hw (botHalf_of hb) r j)) r j

theorem out_addIn (c : Dev nD) (t : Fin cfg0.N) (r j : Fin 512) :
    @Eq EReal ((outsAt0 m c t.val t.isLt).2.2.1 (ix2 r j)) ((inp m c).addIn (rowOf t) ⟨512 * (quarter t).val + r.val, by omega⟩ j) := by
  have hw : (⟨iblk m c 5 t, iblk m c 6 t, iblk m c 7 t, iblk m c 8 t, iblk m c 9 t, iblk m c 10 t, iblk m c 11 t, iblk m c 12 t,
      iblk m c 13 t, iblk m c 14 t⟩ : Weights).Of (inp m c) := wts_of m c t
  have hb := blocks m c t
  by_cases h : t.val % 4 = 0
  · have hz := carry_first m c t h
    rw [outsAt0_A m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (k0_pay6 (F := Ideal)) = zp at hz ⊢
    exact canon_two (e := .bf16) (F := fun s j => (inp m c).addIn (rowOf t) s j)
      (fun r j => (congrFun (rfl : _ = (topHalf x0 x1 x2 x4 zp).addIn ⟨x5, x6, x7, x8, x9, x10, x11, x12, x13, x14⟩) (ix2 r j)).trans (Half.addIn_at hw (topHalf_of hb hz) r j))
      (fun r j => (congrFun (rfl : _ = (botHalf x0 x1 x2 x4).addIn ⟨x5, x6, x7, x8, x9, x10, x11, x12, x13, x14⟩) (ix2 r j)).trans (Half.addIn_at hw (botHalf_of hb) r j)) r j
  · have hz := carry_next m c t h
    rw [outsAt0_B m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (outsAt0 m c (t.val - 1) (Nat.lt_of_le_of_lt (Nat.sub_le _ _) t.isLt)).2.2.2.2.2.2.2.2.2.2.2 = zp at hz ⊢
    exact canon_two (e := .bf16) (F := fun s j => (inp m c).addIn (rowOf t) s j)
      (fun r j => (congrFun (rfl : _ = (topHalf x0 x1 x2 x4 zp).addIn ⟨x5, x6, x7, x8, x9, x10, x11, x12, x13, x14⟩) (ix2 r j)).trans (Half.addIn_at hw (topHalf_of hb hz) r j))
      (fun r j => (congrFun (rfl : _ = (botHalf x0 x1 x2 x4).addIn ⟨x5, x6, x7, x8, x9, x10, x11, x12, x13, x14⟩) (ix2 r j)).trans (Half.addIn_at hw (botHalf_of hb) r j)) r j

theorem out_keyIn (c : Dev nD) (t : Fin cfg0.N) (r j : Fin 512) :
    @Eq EReal ((outsAt0 m c t.val t.isLt).2.2.2.1 (ix2 r j)) ((inp m c).keyIn (rowOf t) ⟨512 * (quarter t).val + r.val, by omega⟩ j) := by
  have hw : (⟨iblk m c 5 t, iblk m c 6 t, iblk m c 7 t, iblk m c 8 t, iblk m c 9 t, iblk m c 10 t, iblk m c 11 t, iblk m c 12 t,
      iblk m c 13 t, iblk m c 14 t⟩ : Weights).Of (inp m c) := wts_of m c t
  have hb := blocks m c t
  by_cases h : t.val % 4 = 0
  · have hz := carry_first m c t h
    rw [outsAt0_A m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (k0_pay6 (F := Ideal)) = zp at hz ⊢
    exact canon_two (e := .bf16) (F := fun s j => (inp m c).keyIn (rowOf t) s j)
      (fun r j => (congrFun (rfl : _ = (topHalf x0 x1 x2 x4 zp).keyIn ⟨x5, x6, x7, x8, x9, x10, x11, x12, x13, x14⟩) (ix2 r j)).trans (Half.keyIn_at hw (topHalf_of hb hz) r j))
      (fun r j => (congrFun (rfl : _ = (botHalf x0 x1 x2 x4).keyIn ⟨x5, x6, x7, x8, x9, x10, x11, x12, x13, x14⟩) (ix2 r j)).trans (Half.keyIn_at hw (botHalf_of hb) r j)) r j
  · have hz := carry_next m c t h
    rw [outsAt0_B m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (outsAt0 m c (t.val - 1) (Nat.lt_of_le_of_lt (Nat.sub_le _ _) t.isLt)).2.2.2.2.2.2.2.2.2.2.2 = zp at hz ⊢
    exact canon_two (e := .bf16) (F := fun s j => (inp m c).keyIn (rowOf t) s j)
      (fun r j => (congrFun (rfl : _ = (topHalf x0 x1 x2 x4 zp).keyIn ⟨x5, x6, x7, x8, x9, x10, x11, x12, x13, x14⟩) (ix2 r j)).trans (Half.keyIn_at hw (topHalf_of hb hz) r j))
      (fun r j => (congrFun (rfl : _ = (botHalf x0 x1 x2 x4).keyIn ⟨x5, x6, x7, x8, x9, x10, x11, x12, x13, x14⟩) (ix2 r j)).trans (Half.keyIn_at hw (botHalf_of hb) r j)) r j

end Cert.PrepKernelIdeal.RefValue

end
-- ==== Proof.Prep.HalvesB.lean ====
/- What a grid point leaves in the blocks it stores in two halves: the values, the gate and the bonus. -/
module

public import proofs.«01_k».proof.Proof.Prep.Carry

@[expose] public section

set_option maxRecDepth 16384

noncomputable section

namespace Cert.PrepKernelIdeal.RefValue

open Cert.PrepKernelIdeal Cert.PrepKernelIdeal.Gen Cert.PrepKernelIdeal.Tile Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

theorem out_v (c : Dev nD) (t : Fin cfg0.N) (r j : Fin 512) :
    @Eq EReal ((outsAt0 m c t.val t.isLt).2.2.2.2.2.2.1 (ix2 r j)) ((inp m c).v (rowOf t) ⟨512 * (quarter t).val + r.val, by omega⟩ j) := by
  have hw : (⟨iblk m c 5 t, iblk m c 6 t, iblk m c 7 t, iblk m c 8 t, iblk m c 9 t, iblk m c 10 t, iblk m c 11 t, iblk m c 12 t,
      iblk m c 13 t, iblk m c 14 t⟩ : Weights).Of (inp m c) := wts_of m c t
  have hb := blocks m c t
  by_cases h : t.val % 4 = 0
  · have hz := carry_first m c t h
    rw [outsAt0_A m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (k0_pay6 (F := Ideal)) = zp at hz ⊢
    exact canon_two (e := .bf16) (F := fun s j => (inp m c).v (rowOf t) s j)
      (fun r j => (congrFun (rfl : _ = (topHalf x0 x1 x2 x4 zp).v) (ix2 r j)).trans ((topHalf_of hb hz).v r j))
      (fun r j => (congrFun (rfl : _ = (botHalf x0 x1 x2 x4).v) (ix2 r j)).trans ((botHalf_of hb).v r j)) r j
  · have hz := carry_next m c t h
    rw [outsAt0_B m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (outsAt0 m c (t.val - 1) (Nat.lt_of_le_of_lt (Nat.sub_le _ _) t.isLt)).2.2.2.2.2.2.2.2.2.2.2 = zp at hz ⊢
    exact canon_two (e := .bf16) (F := fun s j => (inp m c).v (rowOf t) s j)
      (fun r j => (congrFun (rfl : _ = (topHalf x0 x1 x2 x4 zp).v) (ix2 r j)).trans ((topHalf_of hb hz).v r j))
      (fun r j => (congrFun (rfl : _ = (botHalf x0 x1 x2 x4).v) (ix2 r j)).trans ((botHalf_of hb).v r j)) r j

theorem out_gate (c : Dev nD) (t : Fin cfg0.N) (r j : Fin 512) :
    @Eq EReal ((outsAt0 m c t.val t.isLt).2.2.2.2.2.2.2.1 (ix2 r j)) ((inp m c).gate (rowOf t) ⟨512 * (quarter t).val + r.val, by omega⟩ j) := by
  have hw : (⟨iblk m c 5 t, iblk m c 6 t, iblk m c 7 t, iblk m c 8 t, iblk m c 9 t, iblk m c 10 t, iblk m c 11 t, iblk m c 12 t,
      iblk m c 13 t, iblk m c 14 t⟩ : Weights).Of (inp m c) := wts_of m c t
  have hb := blocks m c t
  by_cases h : t.val % 4 = 0
  · have hz := carry_first m c t h
    rw [outsAt0_A m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (k0_pay6 (F := Ideal)) = zp at hz ⊢
    exact canon_two (e := .f32) (F := fun s j => (inp m c).gate (rowOf t) s j)
      (fun r j => (congrFun (rfl : _ = (topHalf x0 x1 x2 x4 zp).gate ⟨x5, x6, x7, x8, x9, x10, x11, x12, x13, x14⟩) (ix2 r j)).trans (Half.gate_at hw (topHalf_of hb hz) r j))
      (fun r j => (congrFun (rfl : _ = (botHalf x0 x1 x2 x4).gate ⟨x5, x6, x7, x8, x9, x10, x11, x12, x13, x14⟩) (ix2 r j)).trans (Half.gate_at hw (botHalf_of hb) r j)) r j
  · have hz := carry_next m c t h
    rw [outsAt0_B m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (outsAt0 m c (t.val - 1) (Nat.lt_of_le_of_lt (Nat.sub_le _ _) t.isLt)).2.2.2.2.2.2.2.2.2.2.2 = zp at hz ⊢
    exact canon_two (e := .f32) (F := fun s j => (inp m c).gate (rowOf t) s j)
      (fun r j => (congrFun (rfl : _ = (topHalf x0 x1 x2 x4 zp).gate ⟨x5, x6, x7, x8, x9, x10, x11, x12, x13, x14⟩) (ix2 r j)).trans (Half.gate_at hw (topHalf_of hb hz) r j))
      (fun r j => (congrFun (rfl : _ = (botHalf x0 x1 x2 x4).gate ⟨x5, x6, x7, x8, x9, x10, x11, x12, x13, x14⟩) (ix2 r j)).trans (Half.gate_at hw (botHalf_of hb) r j)) r j

theorem out_bonus (c : Dev nD) (t : Fin cfg0.N) (r j : Fin 512) :
    @Eq EReal ((outsAt0 m c t.val t.isLt).2.2.2.2.2.2.2.2.1 (ix2 r j)) ((inp m c).bonus (rowOf t) ⟨512 * (quarter t).val + r.val, by omega⟩ j) := by
  have hw : (⟨iblk m c 5 t, iblk m c 6 t, iblk m c 7 t, iblk m c 8 t, iblk m c 9 t, iblk m c 10 t, iblk m c 11 t, iblk m c 12 t,
      iblk m c 13 t, iblk m c 14 t⟩ : Weights).Of (inp m c) := wts_of m c t
  have hb := blocks m c t
  by_cases h : t.val % 4 = 0
  · have hz := carry_first m c t h
    rw [outsAt0_A m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (k0_pay6 (F := Ideal)) = zp at hz ⊢
    exact canon_two (e := .f32) (F := fun s j => (inp m c).bonus (rowOf t) s j)
      (fun r j => (congrFun (rfl : _ = (topHalf x0 x1 x2 x4 zp).bonus ⟨x5, x6, x7, x8, x9, x10, x11, x12, x13, x14⟩) (ix2 r j)).trans (Half.bonus_at hw (topHalf_of hb hz) r j))
      (fun r j => (congrFun (rfl : _ = (botHalf x0 x1 x2 x4).bonus ⟨x5, x6, x7, x8, x9, x10, x11, x12, x13, x14⟩) (ix2 r j)).trans (Half.bonus_at hw (botHalf_of hb) r j)) r j
  · have hz := carry_next m c t h
    rw [outsAt0_B m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (outsAt0 m c (t.val - 1) (Nat.lt_of_le_of_lt (Nat.sub_le _ _) t.isLt)).2.2.2.2.2.2.2.2.2.2.2 = zp at hz ⊢
    exact canon_two (e := .f32) (F := fun s j => (inp m c).bonus (rowOf t) s j)
      (fun r j => (congrFun (rfl : _ = (topHalf x0 x1 x2 x4 zp).bonus ⟨x5, x6, x7, x8, x9, x10, x11, x12, x13, x14⟩) (ix2 r j)).trans (Half.bonus_at hw (topHalf_of hb hz) r j))
      (fun r j => (congrFun (rfl : _ = (botHalf x0 x1 x2 x4).bonus ⟨x5, x6, x7, x8, x9, x10, x11, x12, x13, x14⟩) (ix2 r j)).trans (Half.bonus_at hw (botHalf_of hb) r j)) r j

end Cert.PrepKernelIdeal.RefValue

end
-- ==== Proof.Prep.Chunks.lean ====
/- What a grid point leaves in the blocks it stores chunk by chunk. -/
module

public import proofs.«01_k».proof.Proof.Prep.Carry

@[expose] public section

set_option maxRecDepth 16384

noncomputable section

namespace Cert.PrepKernelIdeal.RefValue

open Cert.PrepKernelIdeal Cert.PrepKernelIdeal.Gen Cert.PrepKernelIdeal.Tile Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

theorem out_addEnd (c : Dev nD) (t : Fin cfg0.N) (r j : Fin 512) :
    @Eq EReal ((outsAt0 m c t.val t.isLt).2.2.2.2.1 (ix2 r j)) ((inp m c).addEnd (rowOf t) ⟨512 * (quarter t).val + r.val, by omega⟩ j) := by
  have hw : (⟨iblk m c 5 t, iblk m c 6 t, iblk m c 7 t, iblk m c 8 t, iblk m c 9 t, iblk m c 10 t, iblk m c 11 t, iblk m c 12 t,
      iblk m c 13 t, iblk m c 14 t⟩ : Weights).Of (inp m c) := wts_of m c t
  have hb := blocks m c t
  by_cases h : t.val % 4 = 0
  · have hz := carry_first m c t h
    rw [outsAt0_A m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (k0_pay6 (F := Ideal)) = zp at hz ⊢
    exact canon_eight (e := .bf16) (F := fun s j => (inp m c).addEnd (rowOf t) s j)
      (fun s j => (congrFun (rfl : _ = end0 ((topHalf x0 x1 x2 x4 zp).eCum ⟨x5, x6, x7, x8, x9, x10, x11, x12, x13, x14⟩) ((topHalf x0 x1 x2 x4 zp).addIn ⟨x5, x6, x7, x8, x9, x10, x11, x12, x13, x14⟩)) (ix2 s j)).trans ((end0_apply _ _ s j).trans (Half.addEnd_at hw (topHalf_of hb hz) 0 s j)))
      (fun s j => (congrFun (rfl : _ = end1 ((topHalf x0 x1 x2 x4 zp).eCum ⟨x5, x6, x7, x8, x9, x10, x11, x12, x13, x14⟩) ((topHalf x0 x1 x2 x4 zp).addIn ⟨x5, x6, x7, x8, x9, x10, x11, x12, x13, x14⟩)) (ix2 s j)).trans ((end1_apply _ _ s j).trans (Half.addEnd_at hw (topHalf_of hb hz) 1 s j)))
      (fun s j => (congrFun (rfl : _ = end2 ((topHalf x0 x1 x2 x4 zp).eCum ⟨x5, x6, x7, x8, x9, x10, x11, x12, x13, x14⟩) ((topHalf x0 x1 x2 x4 zp).addIn ⟨x5, x6, x7, x8, x9, x10, x11, x12, x13, x14⟩)) (ix2 s j)).trans ((end2_apply _ _ s j).trans (Half.addEnd_at hw (topHalf_of hb hz) 2 s j)))
      (fun s j => (congrFun (rfl : _ = end3 ((topHalf x0 x1 x2 x4 zp).eCum ⟨x5, x6, x7, x8, x9, x10, x11, x12, x13, x14⟩) ((topHalf x0 x1 x2 x4 zp).addIn ⟨x5, x6, x7, x8, x9, x10, x11, x12, x13, x14⟩)) (ix2 s j)).trans ((end3_apply _ _ s j).trans (Half.addEnd_at hw (topHalf_of hb hz) 3 s j)))
      (fun s j => (congrFun (rfl : _ = end0 ((botHalf x0 x1 x2 x4).eCum ⟨x5, x6, x7, x8, x9, x10, x11, x12, x13, x14⟩) ((botHalf x0 x1 x2 x4).addIn ⟨x5, x6, x7, x8, x9, x10, x11, x12, x13, x14⟩)) (ix2 s j)).trans ((end0_apply _ _ s j).trans (Half.addEnd_at hw (botHalf_of hb) 0 s j)))
      (fun s j => (congrFun (rfl : _ = end1 ((botHalf x0 x1 x2 x4).eCum ⟨x5, x6, x7, x8, x9, x10, x11, x12, x13, x14⟩) ((botHalf x0 x1 x2 x4).addIn ⟨x5, x6, x7, x8, x9, x10, x11, x12, x13, x14⟩)) (ix2 s j)).trans ((end1_apply _ _ s j).trans (Half.addEnd_at hw (botHalf_of hb) 1 s j)))
      (fun s j => (congrFun (rfl : _ = end2 ((botHalf x0 x1 x2 x4).eCum ⟨x5, x6, x7, x8, x9, x10, x11, x12, x13, x14⟩) ((botHalf x0 x1 x2 x4).addIn ⟨x5, x6, x7, x8, x9, x10, x11, x12, x13, x14⟩)) (ix2 s j)).trans ((end2_apply _ _ s j).trans (Half.addEnd_at hw (botHalf_of hb) 2 s j)))
      (fun s j => (congrFun (rfl : _ = end3 ((botHalf x0 x1 x2 x4).eCum ⟨x5, x6, x7, x8, x9, x10, x11, x12, x13, x14⟩) ((botHalf x0 x1 x2 x4).addIn ⟨x5, x6, x7, x8, x9, x10, x11, x12, x13, x14⟩)) (ix2 s j)).trans ((end3_apply _ _ s j).trans (Half.addEnd_at hw (botHalf_of hb) 3 s j))) r j
  · have hz := carry_next m c t h
    rw [outsAt0_B m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (outsAt0 m c (t.val - 1) (Nat.lt_of_le_of_lt (Nat.sub_le _ _) t.isLt)).2.2.2.2.2.2.2.2.2.2.2 = zp at hz ⊢
    exact canon_eight (e := .bf16) (F := fun s j => (inp m c).addEnd (rowOf t) s j)
      (fun s j => (congrFun (rfl : _ = end0 ((topHalf x0 x1 x2 x4 zp).eCum ⟨x5, x6, x7, x8, x9, x10, x11, x12, x13, x14⟩) ((topHalf x0 x1 x2 x4 zp).addIn ⟨x5, x6, x7, x8, x9, x10, x11, x12, x13, x14⟩)) (ix2 s j)).trans ((end0_apply _ _ s j).trans (Half.addEnd_at hw (topHalf_of hb hz) 0 s j)))
      (fun s j => (congrFun (rfl : _ = end1 ((topHalf x0 x1 x2 x4 zp).eCum ⟨x5, x6, x7, x8, x9, x10, x11, x12, x13, x14⟩) ((topHalf x0 x1 x2 x4 zp).addIn ⟨x5, x6, x7, x8, x9, x10, x11, x12, x13, x14⟩)) (ix2 s j)).trans ((end1_apply _ _ s j).trans (Half.addEnd_at hw (topHalf_of hb hz) 1 s j)))
      (fun s j => (congrFun (rfl : _ = end2 ((topHalf x0 x1 x2 x4 zp).eCum ⟨x5, x6, x7, x8, x9, x10, x11, x12, x13, x14⟩) ((topHalf x0 x1 x2 x4 zp).addIn ⟨x5, x6, x7, x8, x9, x10, x11, x12, x13, x14⟩)) (ix2 s j)).trans ((end2_apply _ _ s j).trans (Half.addEnd_at hw (topHalf_of hb hz) 2 s j)))
      (fun s j => (congrFun (rfl : _ = end3 ((topHalf x0 x1 x2 x4 zp).eCum ⟨x5, x6, x7, x8, x9, x10, x11, x12, x13, x14⟩) ((topHalf x0 x1 x2 x4 zp).addIn ⟨x5, x6, x7, x8, x9, x10, x11, x12, x13, x14⟩)) (ix2 s j)).trans ((end3_apply _ _ s j).trans (Half.addEnd_at hw (topHalf_of hb hz) 3 s j)))
      (fun s j => (congrFun (rfl : _ = end0 ((botHalf x0 x1 x2 x4).eCum ⟨x5, x6, x7, x8, x9, x10, x11, x12, x13, x14⟩) ((botHalf x0 x1 x2 x4).addIn ⟨x5, x6, x7, x8, x9, x10, x11, x12, x13, x14⟩)) (ix2 s j)).trans ((end0_apply _ _ s j).trans (Half.addEnd_at hw (botHalf_of hb) 0 s j)))
      (fun s j => (congrFun (rfl : _ = end1 ((botHalf x0 x1 x2 x4).eCum ⟨x5, x6, x7, x8, x9, x10, x11, x12, x13, x14⟩) ((botHalf x0 x1 x2 x4).addIn ⟨x5, x6, x7, x8, x9, x10, x11, x12, x13, x14⟩)) (ix2 s j)).trans ((end1_apply _ _ s j).trans (Half.addEnd_at hw (botHalf_of hb) 1 s j)))
      (fun s j => (congrFun (rfl : _ = end2 ((botHalf x0 x1 x2 x4).eCum ⟨x5, x6, x7, x8, x9, x10, x11, x12, x13, x14⟩) ((botHalf x0 x1 x2 x4).addIn ⟨x5, x6, x7, x8, x9, x10, x11, x12, x13, x14⟩)) (ix2 s j)).trans ((end2_apply _ _ s j).trans (Half.addEnd_at hw (botHalf_of hb) 2 s j)))
      (fun s j => (congrFun (rfl : _ = end3 ((botHalf x0 x1 x2 x4).eCum ⟨x5, x6, x7, x8, x9, x10, x11, x12, x13, x14⟩) ((botHalf x0 x1 x2 x4).addIn ⟨x5, x6, x7, x8, x9, x10, x11, x12, x13, x14⟩)) (ix2 s j)).trans ((end3_apply _ _ s j).trans (Half.addEnd_at hw (botHalf_of hb) 3 s j))) r j

theorem out_keyEnd (c : Dev nD) (t : Fin cfg0.N) (r j : Fin 512) :
    @Eq EReal ((outsAt0 m c t.val t.isLt).2.2.2.2.2.1 (ix2 r j)) ((inp m c).keyEnd (rowOf t) ⟨512 * (quarter t).val + r.val, by omega⟩ j) := by
  have hw : (⟨iblk m c 5 t, iblk m c 6 t, iblk m c 7 t, iblk m c 8 t, iblk m c 9 t, iblk m c 10 t, iblk m c 11 t, iblk m c 12 t,
      iblk m c 13 t, iblk m c 14 t⟩ : Weights).Of (inp m c) := wts_of m c t
  have hb := blocks m c t
  by_cases h : t.val % 4 = 0
  · have hz := carry_first m c t h
    rw [outsAt0_A m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (k0_pay6 (F := Ideal)) = zp at hz ⊢
    exact canon_eight (e := .bf16) (F := fun s j => (inp m c).keyEnd (rowOf t) s j)
      (fun s j => (congrFun (rfl : _ = end0 ((topHalf x0 x1 x2 x4 zp).eCum ⟨x5, x6, x7, x8, x9, x10, x11, x12, x13, x14⟩) ((topHalf x0 x1 x2 x4 zp).keyIn ⟨x5, x6, x7, x8, x9, x10, x11, x12, x13, x14⟩)) (ix2 s j)).trans ((end0_apply _ _ s j).trans (Half.keyEnd_at hw (topHalf_of hb hz) 0 s j)))
      (fun s j => (congrFun (rfl : _ = end1 ((topHalf x0 x1 x2 x4 zp).eCum ⟨x5, x6, x7, x8, x9, x10, x11, x12, x13, x14⟩) ((topHalf x0 x1 x2 x4 zp).keyIn ⟨x5, x6, x7, x8, x9, x10, x11, x12, x13, x14⟩)) (ix2 s j)).trans ((end1_apply _ _ s j).trans (Half.keyEnd_at hw (topHalf_of hb hz) 1 s j)))
      (fun s j => (congrFun (rfl : _ = end2 ((topHalf x0 x1 x2 x4 zp).eCum ⟨x5, x6, x7, x8, x9, x10, x11, x12, x13, x14⟩) ((topHalf x0 x1 x2 x4 zp).keyIn ⟨x5, x6, x7, x8, x9, x10, x11, x12, x13, x14⟩)) (ix2 s j)).trans ((end2_apply _ _ s j).trans (Half.keyEnd_at hw (topHalf_of hb hz) 2 s j)))
      (fun s j => (congrFun (rfl : _ = end3 ((topHalf x0 x1 x2 x4 zp).eCum ⟨x5, x6, x7, x8, x9, x10, x11, x12, x13, x14⟩) ((topHalf x0 x1 x2 x4 zp).keyIn ⟨x5, x6, x7, x8, x9, x10, x11, x12, x13, x14⟩)) (ix2 s j)).trans ((end3_apply _ _ s j).trans (Half.keyEnd_at hw (topHalf_of hb hz) 3 s j)))
      (fun s j => (congrFun (rfl : _ = end0 ((botHalf x0 x1 x2 x4).eCum ⟨x5, x6, x7, x8, x9, x10, x11, x12, x13, x14⟩) ((botHalf x0 x1 x2 x4).keyIn ⟨x5, x6, x7, x8, x9, x10, x11, x12, x13, x14⟩)) (ix2 s j)).trans ((end0_apply _ _ s j).trans (Half.keyEnd_at hw (botHalf_of hb) 0 s j)))
      (fun s j => (congrFun (rfl : _ = end1 ((botHalf x0 x1 x2 x4).eCum ⟨x5, x6, x7, x8, x9, x10, x11, x12, x13, x14⟩) ((botHalf x0 x1 x2 x4).keyIn ⟨x5, x6, x7, x8, x9, x10, x11, x12, x13, x14⟩)) (ix2 s j)).trans ((end1_apply _ _ s j).trans (Half.keyEnd_at hw (botHalf_of hb) 1 s j)))
      (fun s j => (congrFun (rfl : _ = end2 ((botHalf x0 x1 x2 x4).eCum ⟨x5, x6, x7, x8, x9, x10, x11, x12, x13, x14⟩) ((botHalf x0 x1 x2 x4).keyIn ⟨x5, x6, x7, x8, x9, x10, x11, x12, x13, x14⟩)) (ix2 s j)).trans ((end2_apply _ _ s j).trans (Half.keyEnd_at hw (botHalf_of hb) 2 s j)))
      (fun s j => (congrFun (rfl : _ = end3 ((botHalf x0 x1 x2 x4).eCum ⟨x5, x6, x7, x8, x9, x10, x11, x12, x13, x14⟩) ((botHalf x0 x1 x2 x4).keyIn ⟨x5, x6, x7, x8, x9, x10, x11, x12, x13, x14⟩)) (ix2 s j)).trans ((end3_apply _ _ s j).trans (Half.keyEnd_at hw (botHalf_of hb) 3 s j))) r j
  · have hz := carry_next m c t h
    rw [outsAt0_B m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (outsAt0 m c (t.val - 1) (Nat.lt_of_le_of_lt (Nat.sub_le _ _) t.isLt)).2.2.2.2.2.2.2.2.2.2.2 = zp at hz ⊢
    exact canon_eight (e := .bf16) (F := fun s j => (inp m c).keyEnd (rowOf t) s j)
      (fun s j => (congrFun (rfl : _ = end0 ((topHalf x0 x1 x2 x4 zp).eCum ⟨x5, x6, x7, x8, x9, x10, x11, x12, x13, x14⟩) ((topHalf x0 x1 x2 x4 zp).keyIn ⟨x5, x6, x7, x8, x9, x10, x11, x12, x13, x14⟩)) (ix2 s j)).trans ((end0_apply _ _ s j).trans (Half.keyEnd_at hw (topHalf_of hb hz) 0 s j)))
      (fun s j => (congrFun (rfl : _ = end1 ((topHalf x0 x1 x2 x4 zp).eCum ⟨x5, x6, x7, x8, x9, x10, x11, x12, x13, x14⟩) ((topHalf x0 x1 x2 x4 zp).keyIn ⟨x5, x6, x7, x8, x9, x10, x11, x12, x13, x14⟩)) (ix2 s j)).trans ((end1_apply _ _ s j).trans (Half.keyEnd_at hw (topHalf_of hb hz) 1 s j)))
      (fun s j => (congrFun (rfl : _ = end2 ((topHalf x0 x1 x2 x4 zp).eCum ⟨x5, x6, x7, x8, x9, x10, x11, x12, x13, x14⟩) ((topHalf x0 x1 x2 x4 zp).keyIn ⟨x5, x6, x7, x8, x9, x10, x11, x12, x13, x14⟩)) (ix2 s j)).trans ((end2_apply _ _ s j).trans (Half.keyEnd_at hw (topHalf_of hb hz) 2 s j)))
      (fun s j => (congrFun (rfl : _ = end3 ((topHalf x0 x1 x2 x4 zp).eCum ⟨x5, x6, x7, x8, x9, x10, x11, x12, x13, x14⟩) ((topHalf x0 x1 x2 x4 zp).keyIn ⟨x5, x6, x7, x8, x9, x10, x11, x12, x13, x14⟩)) (ix2 s j)).trans ((end3_apply _ _ s j).trans (Half.keyEnd_at hw (topHalf_of hb hz) 3 s j)))
      (fun s j => (congrFun (rfl : _ = end0 ((botHalf x0 x1 x2 x4).eCum ⟨x5, x6, x7, x8, x9, x10, x11, x12, x13, x14⟩) ((botHalf x0 x1 x2 x4).keyIn ⟨x5, x6, x7, x8, x9, x10, x11, x12, x13, x14⟩)) (ix2 s j)).trans ((end0_apply _ _ s j).trans (Half.keyEnd_at hw (botHalf_of hb) 0 s j)))
      (fun s j => (congrFun (rfl : _ = end1 ((botHalf x0 x1 x2 x4).eCum ⟨x5, x6, x7, x8, x9, x10, x11, x12, x13, x14⟩) ((botHalf x0 x1 x2 x4).keyIn ⟨x5, x6, x7, x8, x9, x10, x11, x12, x13, x14⟩)) (ix2 s j)).trans ((end1_apply _ _ s j).trans (Half.keyEnd_at hw (botHalf_of hb) 1 s j)))
      (fun s j => (congrFun (rfl : _ = end2 ((botHalf x0 x1 x2 x4).eCum ⟨x5, x6, x7, x8, x9, x10, x11, x12, x13, x14⟩) ((botHalf x0 x1 x2 x4).keyIn ⟨x5, x6, x7, x8, x9, x10, x11, x12, x13, x14⟩)) (ix2 s j)).trans ((end2_apply _ _ s j).trans (Half.keyEnd_at hw (botHalf_of hb) 2 s j)))
      (fun s j => (congrFun (rfl : _ = end3 ((botHalf x0 x1 x2 x4).eCum ⟨x5, x6, x7, x8, x9, x10, x11, x12, x13, x14⟩) ((botHalf x0 x1 x2 x4).keyIn ⟨x5, x6, x7, x8, x9, x10, x11, x12, x13, x14⟩)) (ix2 s j)).trans ((end3_apply _ _ s j).trans (Half.keyEnd_at hw (botHalf_of hb) 3 s j))) r j

theorem out_decay (c : Dev nD) (t : Fin cfg0.N) (r : Fin 8) (j : Fin 512) :
    @Eq EReal ((outsAt0 m c t.val t.isLt).2.2.2.2.2.2.2.2.2.1 (ix2 r j)) ((inp m c).decay (rowOf t) ⟨8 * (quarter t).val + r.val, by omega⟩ j) := by
  have hw : (⟨iblk m c 5 t, iblk m c 6 t, iblk m c 7 t, iblk m c 8 t, iblk m c 9 t, iblk m c 10 t, iblk m c 11 t, iblk m c 12 t,
      iblk m c 13 t, iblk m c 14 t⟩ : Weights).Of (inp m c) := wts_of m c t
  have hb := blocks m c t
  by_cases h : t.val % 4 = 0
  · have hz := carry_first m c t h
    rw [outsAt0_A m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (k0_pay6 (F := Ideal)) = zp at hz ⊢
    exact canon_rows (F := fun n j => (inp m c).decay (rowOf t) n j)
      (fun s j => (congrFun (rfl : _ = k0_pay19 (F := Ideal) ((topHalf x0 x1 x2 x4 zp).eCum ⟨x5, x6, x7, x8, x9, x10, x11, x12, x13, x14⟩)) (ix2 s j)).trans ((last0_apply _ s j).trans (Half.chunk_at hw (topHalf_of hb hz) j 0 _ rfl)))
      (fun s j => (congrFun (rfl : _ = k0_pay20 (F := Ideal) ((topHalf x0 x1 x2 x4 zp).eCum ⟨x5, x6, x7, x8, x9, x10, x11, x12, x13, x14⟩)) (ix2 s j)).trans ((last1_apply _ s j).trans (Half.chunk_at hw (topHalf_of hb hz) j 1 _ rfl)))
      (fun s j => (congrFun (rfl : _ = k0_pay21 (F := Ideal) ((topHalf x0 x1 x2 x4 zp).eCum ⟨x5, x6, x7, x8, x9, x10, x11, x12, x13, x14⟩)) (ix2 s j)).trans ((last2_apply _ s j).trans (Half.chunk_at hw (topHalf_of hb hz) j 2 _ rfl)))
      (fun s j => (congrFun (rfl : _ = k0_pay22 (F := Ideal) ((topHalf x0 x1 x2 x4 zp).eCum ⟨x5, x6, x7, x8, x9, x10, x11, x12, x13, x14⟩)) (ix2 s j)).trans ((last3_apply _ s j).trans (Half.chunk_at hw (topHalf_of hb hz) j 3 _ rfl)))
      (fun s j => (congrFun (rfl : _ = k0_pay19 (F := Ideal) ((botHalf x0 x1 x2 x4).eCum ⟨x5, x6, x7, x8, x9, x10, x11, x12, x13, x14⟩)) (ix2 s j)).trans ((last0_apply _ s j).trans (Half.chunk_at hw (botHalf_of hb) j 0 _ rfl)))
      (fun s j => (congrFun (rfl : _ = k0_pay20 (F := Ideal) ((botHalf x0 x1 x2 x4).eCum ⟨x5, x6, x7, x8, x9, x10, x11, x12, x13, x14⟩)) (ix2 s j)).trans ((last1_apply _ s j).trans (Half.chunk_at hw (botHalf_of hb) j 1 _ rfl)))
      (fun s j => (congrFun (rfl : _ = k0_pay21 (F := Ideal) ((botHalf x0 x1 x2 x4).eCum ⟨x5, x6, x7, x8, x9, x10, x11, x12, x13, x14⟩)) (ix2 s j)).trans ((last2_apply _ s j).trans (Half.chunk_at hw (botHalf_of hb) j 2 _ rfl)))
      (fun s j => (congrFun (rfl : _ = k0_pay22 (F := Ideal) ((botHalf x0 x1 x2 x4).eCum ⟨x5, x6, x7, x8, x9, x10, x11, x12, x13, x14⟩)) (ix2 s j)).trans ((last3_apply _ s j).trans (Half.chunk_at hw (botHalf_of hb) j 3 _ rfl))) r j
  · have hz := carry_next m c t h
    rw [outsAt0_B m c t h]
    frame_out [View.readCov_fill, read_unread_whole]
    generalize iblk m c 0 t = x0 at hb ⊢
    generalize iblk m c 1 t = x1 at hb ⊢
    generalize iblk m c 2 t = x2 at hb ⊢
    generalize iblk m c 4 t = x4 at hb ⊢
    generalize iblk m c 5 t = x5 at hw ⊢
    generalize iblk m c 6 t = x6 at hw ⊢
    generalize iblk m c 7 t = x7 at hw ⊢
    generalize iblk m c 8 t = x8 at hw ⊢
    generalize iblk m c 9 t = x9 at hw ⊢
    generalize iblk m c 10 t = x10 at hw ⊢
    generalize iblk m c 11 t = x11 at hw ⊢
    generalize iblk m c 12 t = x12 at hw ⊢
    generalize iblk m c 13 t = x13 at hw ⊢
    generalize iblk m c 14 t = x14 at hw ⊢
    generalize (outsAt0 m c (t.val - 1) (Nat.lt_of_le_of_lt (Nat.sub_le _ _) t.isLt)).2.2.2.2.2.2.2.2.2.2.2 = zp at hz ⊢
    exact canon_rows (F := fun n j => (inp m c).decay (rowOf t) n j)
      (fun s j => (congrFun (rfl : _ = k0_pay19 (F := Ideal) ((topHalf x0 x1 x2 x4 zp).eCum ⟨x5, x6, x7, x8, x9, x10, x11, x12, x13, x14⟩)) (ix2 s j)).trans ((last0_apply _ s j).trans (Half.chunk_at hw (topHalf_of hb hz) j 0 _ rfl)))
      (fun s j => (congrFun (rfl : _ = k0_pay20 (F := Ideal) ((topHalf x0 x1 x2 x4 zp).eCum ⟨x5, x6, x7, x8, x9, x10, x11, x12, x13, x14⟩)) (ix2 s j)).trans ((last1_apply _ s j).trans (Half.chunk_at hw (topHalf_of hb hz) j 1 _ rfl)))
      (fun s j => (congrFun (rfl : _ = k0_pay21 (F := Ideal) ((topHalf x0 x1 x2 x4 zp).eCum ⟨x5, x6, x7, x8, x9, x10, x11, x12, x13, x14⟩)) (ix2 s j)).trans ((last2_apply _ s j).trans (Half.chunk_at hw (topHalf_of hb hz) j 2 _ rfl)))
      (fun s j => (congrFun (rfl : _ = k0_pay22 (F := Ideal) ((topHalf x0 x1 x2 x4 zp).eCum ⟨x5, x6, x7, x8, x9, x10, x11, x12, x13, x14⟩)) (ix2 s j)).trans ((last3_apply _ s j).trans (Half.chunk_at hw (topHalf_of hb hz) j 3 _ rfl)))
      (fun s j => (congrFun (rfl : _ = k0_pay19 (F := Ideal) ((botHalf x0 x1 x2 x4).eCum ⟨x5, x6, x7, x8, x9, x10, x11, x12, x13, x14⟩)) (ix2 s j)).trans ((last0_apply _ s j).trans (Half.chunk_at hw (botHalf_of hb) j 0 _ rfl)))
      (fun s j => (congrFun (rfl : _ = k0_pay20 (F := Ideal) ((botHalf x0 x1 x2 x4).eCum ⟨x5, x6, x7, x8, x9, x10, x11, x12, x13, x14⟩)) (ix2 s j)).trans ((last1_apply _ s j).trans (Half.chunk_at hw (botHalf_of hb) j 1 _ rfl)))
      (fun s j => (congrFun (rfl : _ = k0_pay21 (F := Ideal) ((botHalf x0 x1 x2 x4).eCum ⟨x5, x6, x7, x8, x9, x10, x11, x12, x13, x14⟩)) (ix2 s j)).trans ((last2_apply _ s j).trans (Half.chunk_at hw (botHalf_of hb) j 2 _ rfl)))
      (fun s j => (congrFun (rfl : _ = k0_pay22 (F := Ideal) ((botHalf x0 x1 x2 x4).eCum ⟨x5, x6, x7, x8, x9, x10, x11, x12, x13, x14⟩)) (ix2 s j)).trans ((last3_apply _ s j).trans (Half.chunk_at hw (botHalf_of hb) j 3 _ rfl))) r j

end Cert.PrepKernelIdeal.RefValue

end
-- ==== Proof.Prep.Columns.lean ====
/- What a grid point leaves in its block of the last columns. -/
module

public import proofs.«01_k».proof.Proof.Prep.Carry

@[expose] public section

set_option maxRecDepth 16384

noncomputable section

namespace Cert.PrepKernelIdeal.RefValue

open Cert.PrepKernelIdeal Cert.PrepKernelIdeal.Gen Cert.PrepKernelIdeal.Tile Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- A block of the last projection's columns, at an index. -/
theorem zg256_apply (x0 : FVec Ideal S512x1024 .f32) (x1 : FVec Ideal S1x1024 .f32) (w : FVec Ideal S1024x256 .bf16) (r : Fin 512) (j : Fin 256) :
    (k0_pay63 (F := Ideal) (k0_pay7 (F := Ideal) x0 x1) w (ix2 r j) : EReal) = ∑ k, PrepRow.rms (fun k => x0 (ix2 r k)) (fun k => x1 (ix2 0 k)) k * w (ix2 k j) := by
  simp only [← norm_apply]
  pointwise [k0_pay63]
theorem zg128_apply (x0 : FVec Ideal S512x1024 .f32) (x1 : FVec Ideal S1x1024 .f32) (w : FVec Ideal S1024x128 .bf16) (r : Fin 512) (j : Fin 128) :
    (k0_pay1 (F := Ideal) (k0_pay7 (F := Ideal) x0 x1) w (ix2 r j) : EReal) = ∑ k, PrepRow.rms (fun k => x0 (ix2 r k)) (fun k => x1 (ix2 0 k)) k * w (ix2 k j) := by
  simp only [← norm_apply]
  pointwise [k0_pay1]

/-- That sum is the token's projection, zero in the columns past the weight's. -/
theorem zg_at (c : Dev nD) (t : Fin cfg0.N) (n o : Nat) (inb : ∀ i, (![0, o] : Fin 2 → Nat) i + (![1024, n] : Fin 2 → Nat) i ≤ S1024x1664.size i)
    (ho : o + n ≤ 1664) (r : Fin 512) (i : Fin n) :
    (∑ k, PrepRow.rms (fun k => iblk m c 0 t (ix2 r k)) (fun k => iblk m c 1 t (ix2 0 k)) k
        * (View.ld (Val := Elt Ideal) (e' := .bf16) (iblk m c 3 t) (Rect.unit (s := S1024x1664) ![0, o] ![1024, n] inb) (ix2 k i) : EReal))
      = (inp m c).zgla (rowOf t) ⟨512 * (quarter t).val + r.val, by omega⟩ ⟨o + i.val, by omega⟩ := by
  have hb := blocks m c t
  have hw : ∀ k : Fin 1024, (View.ld (Val := Elt Ideal) (e' := .bf16) (iblk m c 3 t) (Rect.unit (s := S1024x1664) ![0, o] ![1024, n] inb) (ix2 k i) : EReal)
      = if h : o + i.val < 1552 then (inp m c).w k ⟨1696 + (o + i.val), by omega⟩ else 0 := fun k => by
    refine (ld_box (e := .bf16) (iblk m c 3 t) inb k i (by omega) (by omega)).trans ?_
    rw [blk_3, arr_wg]
    congr 1
    funext h
    congr 1
    exact Fin.ext (Nat.zero_add _)
  simp only [hw, hb.x, hb.g]
  unfold PrepRow.Inputs.zgla PrepRow.Inputs.z
  by_cases h : o + i.val < 1552
  · simp only [dif_pos h]
  · simp only [dif_neg h, mul_zero, Finset.sum_const_zero]

theorem out_zgla (c : Dev nD) (t : Fin cfg0.N) (r : Fin 512) (j : Fin 1664) :
    @Eq EReal ((outsAt0 m c t.val t.isLt).2.2.2.2.2.2.2.2.2.2.1 (ix2 r j)) ((inp m c).zgla (rowOf t) ⟨512 * (quarter t).val + r.val, by omega⟩ j) := by
  by_cases h : t.val % 4 = 0
  · rw [outsAt0_A m c t h]
    frame_out [View.readCov_fill, read_unread_whole]
    exact canon_cols (G := fun r j => (inp m c).zgla (rowOf t) ⟨512 * (quarter t).val + r.val, by omega⟩ j)
      (fun r i => (zg128_apply _ _ _ r i).trans (zg_at m c t 128 1536 _ (by omega) r i))
      (fun r i => (zg256_apply _ _ _ r i).trans (zg_at m c t 256 1280 _ (by omega) r i))
      (fun r i => (zg256_apply _ _ _ r i).trans (zg_at m c t 256 1024 _ (by omega) r i))
      (fun r i => (zg256_apply _ _ _ r i).trans (zg_at m c t 256 768 _ (by omega) r i))
      (fun r i => (zg256_apply _ _ _ r i).trans (zg_at m c t 256 512 _ (by omega) r i))
      (fun r i => (zg256_apply _ _ _ r i).trans (zg_at m c t 256 256 _ (by omega) r i))
      (fun r i => (zg256_apply _ _ _ r i).trans (zg_at m c t 256 0 _ (by omega) r i)) r j
  · rw [outsAt0_B m c t h]
    frame_out [View.readCov_fill, read_unread_whole]
    exact canon_cols (G := fun r j => (inp m c).zgla (rowOf t) ⟨512 * (quarter t).val + r.val, by omega⟩ j)
      (fun r i => (zg128_apply _ _ _ r i).trans (zg_at m c t 128 1536 _ (by omega) r i))
      (fun r i => (zg256_apply _ _ _ r i).trans (zg_at m c t 256 1280 _ (by omega) r i))
      (fun r i => (zg256_apply _ _ _ r i).trans (zg_at m c t 256 1024 _ (by omega) r i))
      (fun r i => (zg256_apply _ _ _ r i).trans (zg_at m c t 256 768 _ (by omega) r i))
      (fun r i => (zg256_apply _ _ _ r i).trans (zg_at m c t 256 512 _ (by omega) r i))
      (fun r i => (zg256_apply _ _ _ r i).trans (zg_at m c t 256 256 _ (by omega) r i))
      (fun r i => (zg256_apply _ _ _ r i).trans (zg_at m c t 256 0 _ (by omega) r i)) r j

end Cert.PrepKernelIdeal.RefValue

end
-- ==== Proof.Prep.Kernel.lean ====
/- What the kernel's result arrays hold after the run: the functions of Row.lean at every token (`run`). -/
module

public import proofs.«01_k».proof.Proof.Prep.HalvesA
public import proofs.«01_k».proof.Proof.Prep.HalvesB
public import proofs.«01_k».proof.Proof.Prep.Chunks
public import proofs.«01_k».proof.Proof.Prep.Columns

@[expose] public section

set_option maxRecDepth 16384

noncomputable section

namespace Cert.PrepKernelIdeal.RefValue

open Cert.PrepKernelIdeal Cert.PrepKernelIdeal.Gen Cert.PrepKernelIdeal.Tile Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- An array of the flattened tokens from a function of batch row, position and channel; one of the flattened chunks. -/
def tokens {n : Nat} (f : Fin 16 → Fin 2048 → Fin n → EReal) : (⟨2, ![32768, n]⟩ : Shape).Idx → EReal :=
  fun i => f (PrepRow.batchOf (i 0)) (PrepRow.posOf (i 0)) (i 1)
def chunks (f : Fin 16 → Fin 32 → Fin 512 → EReal) : S512x512.Idx → EReal :=
  fun i => f (PrepRow.batchOfChunk (i 0)) (PrepRow.chunkOf (i 0)) (i 1)

theorem tokens_at {n : Nat} (f : Fin 16 → Fin 2048 → Fin n → EReal) (t : Fin cfg0.N) (r : Fin 512) (j : Fin n) :
    f (rowOf t) ⟨512 * (quarter t).val + r.val, by omega⟩ j = tokens f (ix2 (rowAt t r) j) := by
  show _ = f ⟨(t.val * 512 + r.val) / 2048, _⟩ ⟨(t.val * 512 + r.val) % 2048, _⟩ j
  congr 1 <;> refine Fin.ext ?_
  · show t.val / 4 = (t.val * 512 + r.val) / 2048; omega
  · show 512 * (t.val % 4) + r.val = (t.val * 512 + r.val) % 2048; omega

/-- The row of the flattened chunks that row `r` of point `t`'s block of decays is. -/
abbrev chunkAt (t : Fin cfg0.N) (r : Fin 8) : Fin 512 := ⟨t.val * 8 + r.val, by have := t.isLt; have h : cfg0.N = 64 := N_0; omega⟩

theorem chunks_at (f : Fin 16 → Fin 32 → Fin 512 → EReal) (t : Fin cfg0.N) (r : Fin 8) (j : Fin 512) :
    f (rowOf t) ⟨8 * (quarter t).val + r.val, by omega⟩ j = chunks f (ix2 (chunkAt t r) j) := by
  show _ = f ⟨(t.val * 8 + r.val) / 32, _⟩ ⟨(t.val * 8 + r.val) % 32, _⟩ j
  congr 1 <;> refine Fin.ext ?_
  · show t.val / 4 = (t.val * 8 + r.val) / 32; omega
  · show 8 * (t.val % 4) + r.val = (t.val * 8 + r.val) % 32; omega

/-! Where a point's blocks lie in the result arrays. -/

theorem place_remIn (t : Fin cfg0.N) (r : Fin 512) (j : Fin 512) :
    (((View.whole main_v62_0).slice (win0_15.rect t)).emb (ix2 r j) : S32768x512.Idx) = ix2 (rowAt t r) j := by
  blk_ext [index_out t]
theorem place_rIn (t : Fin cfg0.N) (r : Fin 512) (j : Fin 512) :
    (((View.whole main_v62_1).slice (win0_16.rect t)).emb (ix2 r j) : S32768x512.Idx) = ix2 (rowAt t r) j := by
  blk_ext [index_out t]
theorem place_addIn (t : Fin cfg0.N) (r : Fin 512) (j : Fin 512) :
    (((View.whole main_v62_2).slice (win0_17.rect t)).emb (ix2 r j) : S32768x512.Idx) = ix2 (rowAt t r) j := by
  blk_ext [index_out t]
theorem place_keyIn (t : Fin cfg0.N) (r : Fin 512) (j : Fin 512) :
    (((View.whole main_v62_3).slice (win0_18.rect t)).emb (ix2 r j) : S32768x512.Idx) = ix2 (rowAt t r) j := by
  blk_ext [index_out t]
theorem place_addEnd (t : Fin cfg0.N) (r : Fin 512) (j : Fin 512) :
    (((View.whole main_v62_4).slice (win0_19.rect t)).emb (ix2 r j) : S32768x512.Idx) = ix2 (rowAt t r) j := by
  blk_ext [index_out t]
theorem place_keyEnd (t : Fin cfg0.N) (r : Fin 512) (j : Fin 512) :
    (((View.whole main_v62_5).slice (win0_20.rect t)).emb (ix2 r j) : S32768x512.Idx) = ix2 (rowAt t r) j := by
  blk_ext [index_out t]
theorem place_v (t : Fin cfg0.N) (r : Fin 512) (j : Fin 512) :
    (((View.whole main_v62_6).slice (win0_21.rect t)).emb (ix2 r j) : S32768x512.Idx) = ix2 (rowAt t r) j := by
  blk_ext [index_out' t]
theorem place_gate (t : Fin cfg0.N) (r : Fin 512) (j : Fin 512) :
    (((View.whole main_v62_7).slice (win0_22.rect t)).emb (ix2 r j) : S32768x512.Idx) = ix2 (rowAt t r) j := by
  blk_ext [index_out' t]
theorem place_bonus (t : Fin cfg0.N) (r : Fin 512) (j : Fin 512) :
    (((View.whole main_v62_8).slice (win0_23.rect t)).emb (ix2 r j) : S32768x512.Idx) = ix2 (rowAt t r) j := by
  blk_ext [index_out' t]
theorem place_decay (t : Fin cfg0.N) (r : Fin 8) (j : Fin 512) :
    (((View.whole main_v62_9).slice (win0_24.rect t)).emb (ix2 r j) : S512x512.Idx) = ix2 (chunkAt t r) j := by
  blk_ext [index_out' t]
theorem place_zgla (t : Fin cfg0.N) (r : Fin 512) (j : Fin 1664) :
    (((View.whole main_v62_10).slice (win0_25.rect t)).emb (ix2 r j) : S32768x1664.Idx) = ix2 (rowAt t r) j := by
  blk_ext [index_out' t]

/-! The result arrays after the run. -/

theorem arr_remIn_eq (c : Dev nD) : (dats m 0 c).arrAt 15 cfg0.N = tokens (inp m c).remIn := by
  refine (dats m 0 c).arrAt_eq_of_covers 15 _ (by decide +kernel) fun t hf y => ?_
  blk_simp
  rw [after0_15]
  obtain ⟨r, j, rfl⟩ : ∃ (r : Fin 512) (j : Fin 512), y = ix2 r j := ⟨y 0, y 1, eq_ix2 y⟩
  rw [place_remIn]
  exact (out_remIn m c t r j).trans (tokens_at (inp m c).remIn t r j)
theorem arr_rIn_eq (c : Dev nD) : (dats m 0 c).arrAt 16 cfg0.N = tokens (inp m c).rIn := by
  refine (dats m 0 c).arrAt_eq_of_covers 16 _ (by decide +kernel) fun t hf y => ?_
  blk_simp
  rw [after0_16]
  obtain ⟨r, j, rfl⟩ : ∃ (r : Fin 512) (j : Fin 512), y = ix2 r j := ⟨y 0, y 1, eq_ix2 y⟩
  rw [place_rIn]
  exact (out_rIn m c t r j).trans (tokens_at (inp m c).rIn t r j)
theorem arr_addIn_eq (c : Dev nD) : (dats m 0 c).arrAt 17 cfg0.N = tokens (inp m c).addIn := by
  refine (dats m 0 c).arrAt_eq_of_covers 17 _ (by decide +kernel) fun t hf y => ?_
  blk_simp
  rw [after0_17]
  obtain ⟨r, j, rfl⟩ : ∃ (r : Fin 512) (j : Fin 512), y = ix2 r j := ⟨y 0, y 1, eq_ix2 y⟩
  rw [place_addIn]
  exact (out_addIn m c t r j).trans (tokens_at (inp m c).addIn t r j)
theorem arr_keyIn_eq (c : Dev nD) : (dats m 0 c).arrAt 18 cfg0.N = tokens (inp m c).keyIn := by
  refine (dats m 0 c).arrAt_eq_of_covers 18 _ (by decide +kernel) fun t hf y => ?_
  blk_simp
  rw [after0_18]
  obtain ⟨r, j, rfl⟩ : ∃ (r : Fin 512) (j : Fin 512), y = ix2 r j := ⟨y 0, y 1, eq_ix2 y⟩
  rw [place_keyIn]
  exact (out_keyIn m c t r j).trans (tokens_at (inp m c).keyIn t r j)
theorem arr_addEnd_eq (c : Dev nD) : (dats m 0 c).arrAt 19 cfg0.N = tokens (inp m c).addEnd := by
  refine (dats m 0 c).arrAt_eq_of_covers 19 _ (by decide +kernel) fun t hf y => ?_
  blk_simp
  rw [after0_19]
  obtain ⟨r, j, rfl⟩ : ∃ (r : Fin 512) (j : Fin 512), y = ix2 r j := ⟨y 0, y 1, eq_ix2 y⟩
  rw [place_addEnd]
  exact (out_addEnd m c t r j).trans (tokens_at (inp m c).addEnd t r j)
theorem arr_keyEnd_eq (c : Dev nD) : (dats m 0 c).arrAt 20 cfg0.N = tokens (inp m c).keyEnd := by
  refine (dats m 0 c).arrAt_eq_of_covers 20 _ (by decide +kernel) fun t hf y => ?_
  blk_simp
  rw [after0_20]
  obtain ⟨r, j, rfl⟩ : ∃ (r : Fin 512) (j : Fin 512), y = ix2 r j := ⟨y 0, y 1, eq_ix2 y⟩
  rw [place_keyEnd]
  exact (out_keyEnd m c t r j).trans (tokens_at (inp m c).keyEnd t r j)
theorem arr_v_eq (c : Dev nD) : (dats m 0 c).arrAt 21 cfg0.N = tokens (inp m c).v := by
  refine (dats m 0 c).arrAt_eq_of_covers 21 _ (by decide +kernel) fun t hf y => ?_
  blk_simp
  rw [after0_21]
  obtain ⟨r, j, rfl⟩ : ∃ (r : Fin 512) (j : Fin 512), y = ix2 r j := ⟨y 0, y 1, eq_ix2 y⟩
  rw [place_v]
  exact (out_v m c t r j).trans (tokens_at (inp m c).v t r j)
theorem arr_gate_eq (c : Dev nD) : (dats m 0 c).arrAt 22 cfg0.N = tokens (inp m c).gate := by
  refine (dats m 0 c).arrAt_eq_of_covers 22 _ (by decide +kernel) fun t hf y => ?_
  blk_simp
  rw [after0_22]
  obtain ⟨r, j, rfl⟩ : ∃ (r : Fin 512) (j : Fin 512), y = ix2 r j := ⟨y 0, y 1, eq_ix2 y⟩
  rw [place_gate]
  exact (out_gate m c t r j).trans (tokens_at (inp m c).gate t r j)
theorem arr_bonus_eq (c : Dev nD) : (dats m 0 c).arrAt 23 cfg0.N = tokens (inp m c).bonus := by
  refine (dats m 0 c).arrAt_eq_of_covers 23 _ (by decide +kernel) fun t hf y => ?_
  blk_simp
  rw [after0_23]
  obtain ⟨r, j, rfl⟩ : ∃ (r : Fin 512) (j : Fin 512), y = ix2 r j := ⟨y 0, y 1, eq_ix2 y⟩
  rw [place_bonus]
  exact (out_bonus m c t r j).trans (tokens_at (inp m c).bonus t r j)
theorem arr_decay_eq (c : Dev nD) : (dats m 0 c).arrAt 24 cfg0.N = chunks (inp m c).decay := by
  refine (dats m 0 c).arrAt_eq_of_covers 24 _ (by decide +kernel) fun t hf y => ?_
  blk_simp
  rw [after0_24]
  obtain ⟨r, j, rfl⟩ : ∃ (r : Fin 8) (j : Fin 512), y = ix2 r j := ⟨y 0, y 1, eq_ix2 y⟩
  rw [place_decay]
  exact (out_decay m c t r j).trans (chunks_at (inp m c).decay t r j)
theorem arr_zgla_eq (c : Dev nD) : (dats m 0 c).arrAt 25 cfg0.N = tokens (inp m c).zgla := by
  refine (dats m 0 c).arrAt_eq_of_covers 25 _ (by decide +kernel) fun t hf y => ?_
  blk_simp
  rw [after0_25]
  obtain ⟨r, j, rfl⟩ : ∃ (r : Fin 512) (j : Fin 1664), y = ix2 r j := ⟨y 0, y 1, eq_ix2 y⟩
  rw [place_zgla]
  exact (out_zgla m c t r j).trans (tokens_at (inp m c).zgla t r j)

/-- The run of the program at the ideal instance, with its results read. -/
theorem run : θ_run defs (onTc (τ := τ) (main (F := Ideal))) ⟨m, fun _ => 0, ρ⟩ fun r => ∀ c : Dev nD,
      r.2.mem ((c : Thread nD τ).loc main_v62_0) = tokens (inp m c).remIn
      ∧ r.2.mem ((c : Thread nD τ).loc main_v62_1) = tokens (inp m c).rIn
      ∧ r.2.mem ((c : Thread nD τ).loc main_v62_2) = tokens (inp m c).addIn
      ∧ r.2.mem ((c : Thread nD τ).loc main_v62_3) = tokens (inp m c).keyIn
      ∧ r.2.mem ((c : Thread nD τ).loc main_v62_4) = tokens (inp m c).addEnd
      ∧ r.2.mem ((c : Thread nD τ).loc main_v62_5) = tokens (inp m c).keyEnd
      ∧ r.2.mem ((c : Thread nD τ).loc main_v62_6) = tokens (inp m c).v
      ∧ r.2.mem ((c : Thread nD τ).loc main_v62_7) = tokens (inp m c).gate
      ∧ r.2.mem ((c : Thread nD τ).loc main_v62_8) = tokens (inp m c).bonus
      ∧ r.2.mem ((c : Thread nD τ).loc main_v62_9) = chunks (inp m c).decay
      ∧ r.2.mem ((c : Thread nD τ).loc main_v62_10) = tokens (inp m c).zgla
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => by
    obtain ⟨h0, h1, h2, h3, h4, h5, h6, h7, h8, h9, h10, hk⟩ := h c
    exact ⟨h0.trans (arr_remIn_eq m c), h1.trans (arr_rIn_eq m c), h2.trans (arr_addIn_eq m c), h3.trans (arr_keyIn_eq m c), h4.trans (arr_addEnd_eq m c), h5.trans (arr_keyEnd_eq m c), h6.trans (arr_v_eq m c), h7.trans (arr_gate_eq m c), h8.trans (arr_bonus_eq m c), h9.trans (arr_decay_eq m c), h10.trans (arr_zgla_eq m c), hk⟩)
    (Value.run_blocks m ρ)

end Cert.PrepKernelIdeal.RefValue

end
-- ==== Proof.Prep.Reference.lean ====
/- What the whole-array reference's eleven results hold, at an index: the functions of Row.lean at that token. -/
module

public import proofs.«01_k».proof.Proof.Prep.Row
public import proofs.«01_k».proof.Proof.Gen.PrepReferenceIdeal.Read
public import Idealize.ShloMosaic.Lib.Pointwise

@[expose] public section

set_option maxRecDepth 16384

noncomputable section

namespace Cert.PrepReferenceIdeal.RefValue

open Cert.PrepReferenceIdeal Cert.PrepReferenceIdeal.Gen Cert.PrepReferenceIdeal.Read Idealize.ShloMosaic
open Cert.PrepRow Cert.PrepSums
open scoped BigOperators

/-- The reference's arguments, by index. -/
def inputs (x0 : S16x2048x1024.Idx → EReal) (x1 : S1x1024.Idx → EReal) (x2 : S1x1024x3248.Idx → EReal)
    (x3 : S1x1696.Idx → EReal) (x4 : S1x512.Idx → EReal) (x5 : S1x32x512.Idx → EReal) (x6 : S1x512.Idx → EReal)
    (x7 : S1x32x512.Idx → EReal) (x8 : S1x96x512.Idx → EReal) (x9 x10 : S1x512.Idx → EReal) (x11 : S1x8x64.Idx → EReal) :
    Inputs where
  x b t k := x0 (ix3 b t k)
  g k := x1 (ix2 0 k)
  w k j := x2 (ix3 0 k j)
  mu j := x3 (ix2 0 j)
  db j := x4 (ix2 0 j)
  du i j := x5 (ix3 0 i j)
  ib j := x6 (ix2 0 j)
  iu i j := x7 (ix3 0 i j)
  gu i j := x8 (ix3 0 i j)
  kk j := x9 (ix2 0 j)
  ka j := x10 (ix2 0 j)
  rk j := x11 (ix3 0 ⟨j.val / 64, by omega⟩ ⟨j.val % 64, by omega⟩)

variable (x0 : FVec Ideal S16x2048x1024 .f32) (x1 : FVec Ideal S1x1024 .f32) (x2 : FVec Ideal S1x1024x3248 .f32)
  (x3 : FVec Ideal S1x1696 .f32) (x4 : FVec Ideal S1x512 .f32) (x5 : FVec Ideal S1x32x512 .f32) (x6 : FVec Ideal S1x512 .f32)
  (x7 : FVec Ideal S1x32x512 .f32) (x8 : FVec Ideal S1x96x512 .f32) (x9 x10 : FVec Ideal S1x512 .f32)
  (x11 : FVec Ideal S1x8x64 .f32) (b : Fin 16) (t : Fin 2048)

theorem norm_apply (c : Fin 1024) : (val_main_v13 (F := Ideal) x0 x1 (ix3 b t c) : EReal)
    = rms (fun k => x0 (ix3 b t k)) (fun k => x1 (ix2 0 k)) c := by
  unfold rms
  pointwise [val_main_v13, val_main_v12, val_main_v11, val_main_v10, val_main_v9, val_main_v8, val_main_v7, val_main_v6,
    val_main_cst_1, val_main_v5, val_main_v4, val_main_cst_0, val_main_v3, val_main_v2, val_main_cst, val_main_v1, val_main_v0]

theorem z_apply (j : Fin 3248) : (val_main_v15 (F := Ideal) x0 x1 x2 (ix3 b t j) : EReal) = (inputs x0 x1 x2 x3 x4 x5 x6 x7 x8 x9 x10 x11).z b t j := by
  unfold Inputs.z
  pointwise [val_main_v15, val_main_v14]
  simp only [norm_apply]
  rfl

theorem s_apply (c : Fin 1696) : (val_main_v33 (F := Ideal) x0 x1 x2 x3 (ix3 b t c) : EReal) = (inputs x0 x1 x2 x3 x4 x5 x6 x7 x8 x9 x10 x11).s b t c := by
  have h0 : FloatOps.sitofp (F := Ideal) FTy.f32 (0#32) = (0 : EReal) := by
    show (((0#32 : BitVec 32).toInt : ℝ) : EReal) = 0
    simp
  have hlt := t.isLt
  unfold Inputs.s shift Inputs.zprev
  pointwise [val_main_v33, val_main_v32, val_main_v31, val_main_v30, val_main_v29, val_main_v28, val_main_v27,
    val_main_v18, val_main_v19, val_main_v16, val_main_call0_v0, val_main_c]
  simp only [z_apply x0 x1 x2 x3 x4 x5 x6 x7 x8 x9 x10 x11, h0]
  by_cases h : 1 ≤ t.val
  · rw [dif_pos ⟨h, by omega⟩, if_pos h]; rfl
  · rw [dif_neg (fun hc => h hc.1), if_neg h]; rfl

theorem r_apply (j : Fin 512) : (val_main_v34 (F := Ideal) x0 x1 x2 x3 (ix3 b t j) : EReal) = (inputs x0 x1 x2 x3 x4 x5 x6 x7 x8 x9 x10 x11).r b t j := by
  pointwise [val_main_v34]
  exact s_apply ..
theorem k_apply (j : Fin 512) : (val_main_v35 (F := Ideal) x0 x1 x2 x3 (ix3 b t j) : EReal) = (inputs x0 x1 x2 x3 x4 x5 x6 x7 x8 x9 x10 x11).k b t j := by
  pointwise [val_main_v35]
  exact s_apply ..
theorem v_apply (j : Fin 512) : (val_main_v36 (F := Ideal) x0 x1 x2 x3 (ix3 b t j) : EReal) = (inputs x0 x1 x2 x3 x4 x5 x6 x7 x8 x9 x10 x11).v b t j := by
  pointwise [val_main_v36]
  exact s_apply ..

theorem logit_apply (j : Fin 512) : (val_main_v44 (F := Ideal) x0 x1 x2 x3 x4 x5 (ix3 b t j) : EReal) = (inputs x0 x1 x2 x3 x4 x5 x6 x7 x8 x9 x10 x11).logit b t j := by
  unfold Inputs.logit
  pointwise [val_main_v44, val_main_v43, val_main_v42, val_main_v41, val_main_v40, val_main_v37, val_main_v19,
    val_main_v20]
  simp only [s_apply x0 x1 x2 x3 x4 x5 x6 x7 x8 x9 x10 x11]
  rfl

theorem ld_apply (j : Fin 512) : (val_main_v51 (F := Ideal) x0 x1 x2 x3 x4 x5 (ix3 b t j) : EReal) = (inputs x0 x1 x2 x3 x4 x5 x6 x7 x8 x9 x10 x11).ld b t j := by
  unfold Inputs.ld
  rw [← logDecay_ref]
  pointwise [val_main_v51, val_main_v50, val_main_v49, val_main_v48, val_main_v47, val_main_cst_2, val_main_v46,
    val_main_call1_v11, val_main_call1_v10, val_main_call1_v9, val_main_call1_v8, val_main_call1_v7, val_main_call1_v6,
    val_main_call1_v5, val_main_call1_v4, val_main_call1_v3, val_main_call1_v2, val_main_call1_v1, val_main_call1_v0,
    val_main_call1_cst, val_main_v45]
  rw [if_neg (fun h => h rfl)]
  simp only [logit_apply x0 x1 x2 x3 x4 x5 x6 x7 x8 x9 x10 x11]

/-- The running sum inside a chunk: a window of 64 that starts up to 63 tokens before the chunk, where it reads zeros. -/
theorem cumsum_apply (x : S16x32x64x512.Idx → EReal) (n : Fin 32) (s : Fin 64) (j : Fin 512) :
    Host.reduceWindowAdd (F := Ideal) (φ := .f32) ![1, 1, 64, 1] ![1, 1, 1, 1] ![0, 0, 63, 0] ![0, 0, 0, 0] x
        (val_main_call2_call0_v0 (F := Ideal))
        reduceWindows_S16x32x64x512_S16x32x64x512_w1s1p0_0_w1s1p0_0_w64s1p63_0_w1s1p0_0 h_S_ (ix4 b n s j)
      = ∑ e : Fin 64, if e.val ≤ s.val then x (ix4 b n e j) else 0 := by
  have h0 : val_main_call2_call0_v0 (F := Ideal) (Shape.Idx.first h_S_) = (0 : EReal) := by
    pointwise [val_main_call2_call0_v0, val_main_call2_call0_cst]
  rw [← window_sum s (fun e => x (ix4 b n e j)) (fun q => if h : 63 ≤ s.val + q.val then x (ix4 b n ⟨s.val + q.val - 63, by omega⟩ j) else 0)
    (fun q => rfl)]
  unfold Host.reduceWindowAdd
  rw [Ideal.hostReduceWindowAdd_def, h0]
  unfold Ideal.hostReduceWindowAdd Host.reduceWindow
  simp only
  rw [foldl_add, zero_add]
  let W : Shape := ⟨4, ![1, 1, 64, 1]⟩
  let e : Fin W.numel ≃ Fin 64 := W.rowMajor.symm.trans
    { toFun := fun i => i 2, invFun := fun q => ix4 0 0 q 0
      left_inv := fun i => by
        refine funext fun a => Fin.ext ?_
        fin_cases a
        · show 0 = (i 0).val; have : (i 0).val < 1 := (i 0).isLt; omega
        · show 0 = (i 1).val; have : (i 1).val < 1 := (i 1).isLt; omega
        · rfl
        · show 0 = (i 3).val; have : (i 3).val < 1 := (i 3).isLt; omega
      right_inv := fun q => rfl }
  refine Fintype.sum_equiv e _ _ fun q => ?_
  have he : (e q).val = (W.rowMajor.symm q 2).val := rfl
  have i0 : (W.rowMajor.symm q 0).val = 0 := by have : (W.rowMajor.symm q 0).val < 1 := (W.rowMajor.symm q 0).isLt; omega
  have i1 : (W.rowMajor.symm q 1).val = 0 := by have : (W.rowMajor.symm q 1).val < 1 := (W.rowMajor.symm q 1).isLt; omega
  have i2 : (W.rowMajor.symm q 2).val < 64 := (W.rowMajor.symm q 2).isLt
  have i3 : (W.rowMajor.symm q 3).val = 0 := by have : (W.rowMajor.symm q 3).val < 1 := (W.rowMajor.symm q 3).isLt; omega
  have hb := b.isLt
  have hn := n.isLt
  have hs := s.isLt
  have hj := j.isLt
  by_cases h : 63 ≤ s.val + (W.rowMajor.symm q 2).val
  · rw [dif_pos (by
      intro a
      fin_cases a
      · show 0 ≤ b.val * 1 + (W.rowMajor.symm q 0).val ∧ b.val * 1 + (W.rowMajor.symm q 0).val - 0 < 16; omega
      · show 0 ≤ n.val * 1 + (W.rowMajor.symm q 1).val ∧ n.val * 1 + (W.rowMajor.symm q 1).val - 0 < 32; omega
      · show 63 ≤ s.val * 1 + (W.rowMajor.symm q 2).val ∧ s.val * 1 + (W.rowMajor.symm q 2).val - 63 < 64; omega
      · show 0 ≤ j.val * 1 + (W.rowMajor.symm q 3).val ∧ j.val * 1 + (W.rowMajor.symm q 3).val - 0 < 512; omega),
      dif_pos (by rw [he]; exact h)]
    refine congrArg x (funext fun a => Fin.ext ?_)
    fin_cases a
    · show b.val * 1 + (W.rowMajor.symm q 0).val - 0 = b.val; omega
    · show n.val * 1 + (W.rowMajor.symm q 1).val - 0 = n.val; omega
    · show s.val * 1 + (W.rowMajor.symm q 2).val - 63 = s.val + (W.rowMajor.symm q 2).val - 63; omega
    · show j.val * 1 + (W.rowMajor.symm q 3).val - 0 = j.val; omega
  · rw [dif_neg (fun hin => h (by
      have h2 : 63 ≤ s.val * 1 + (W.rowMajor.symm q 2).val := (hin 2).1
      omega)), dif_neg (by rw [he]; exact h)]

/-- Token `s` of chunk `n`. -/
abbrev tok (n : Fin 32) (s : Fin 64) : Fin 2048 := ⟨n.val * 64 + s.val, by omega⟩

/-- The chunked log decay, its running sum, and the chunk's last. -/
theorem gk_apply (n : Fin 32) (s : Fin 64) (j : Fin 512) : (val_main_v103 (F := Ideal) x0 x1 x2 x3 x4 x5 (ix4 b n s j) : EReal)
    = (inputs x0 x1 x2 x3 x4 x5 x6 x7 x8 x9 x10 x11).ld b (tok n s) j := by
  pointwise [val_main_v103]
  rw [← ld_apply]

theorem cum_apply (n : Fin 32) (s : Fin 64) (j : Fin 512) : (val_main_v104 (F := Ideal) x0 x1 x2 x3 x4 x5 (ix4 b n s j) : EReal)
    = (inputs x0 x1 x2 x3 x4 x5 x6 x7 x8 x9 x10 x11).cum b (tok n s) j := by
  unfold val_main_v104 Inputs.cum
  rw [cumsum_apply]
  simp only [gk_apply x0 x1 x2 x3 x4 x5 x6 x7 x8 x9 x10 x11]
  refine Finset.sum_congr rfl fun e _ => ?_
  refine if_congr (by show _ ↔ e.val ≤ (n.val * 64 + s.val) % 64; omega) ?_ rfl
  congr 1
  exact Fin.ext (by show n.val * 64 + e.val = 64 * ((n.val * 64 + s.val) / 64) + e.val; omega)

theorem tot_apply (n : Fin 32) (j : Fin 512) : (val_main_v105 (F := Ideal) x0 x1 x2 x3 x4 x5 (ix4 b n 0 j) : EReal)
    = (inputs x0 x1 x2 x3 x4 x5 x6 x7 x8 x9 x10 x11).tot b n j := by
  pointwise [val_main_v105]
  rw [cum_apply x0 x1 x2 x3 x4 x5 x6 x7 x8 x9 x10 x11, Inputs.tot_eq_cum]
  congr 1
  exact Fin.ext (by show n.val * 64 + 63 = 64 * n.val + 63; omega)

theorem a_apply (j : Fin 512) : (val_main_v61 (F := Ideal) x0 x1 x2 x3 x6 x7 (ix3 b t j) : EReal) = (inputs x0 x1 x2 x3 x4 x5 x6 x7 x8 x9 x10 x11).a b t j := by
  unfold Inputs.a sigm
  pointwise [val_main_v61, val_main_v60, val_main_cst_4, val_main_v59, val_main_v58, val_main_cst_3, val_main_v57, val_main_v56,
    val_main_v55, val_main_v54, val_main_v53, val_main_v52, val_main_v38, val_main_v21, val_main_v22]
  simp only [s_apply x0 x1 x2 x3 x4 x5 x6 x7 x8 x9 x10 x11]
  rfl

theorem gate_apply (j : Fin 512) : (val_main_v68 (F := Ideal) x0 x1 x2 x3 x8 (ix3 b t j) : EReal) = (inputs x0 x1 x2 x3 x4 x5 x6 x7 x8 x9 x10 x11).gate b t j := by
  unfold Inputs.gate sigm
  pointwise [val_main_v68, val_main_v67, val_main_v66, val_main_cst_6, val_main_v65, val_main_v64, val_main_cst_5, val_main_v63,
    val_main_v62, val_main_v39, val_main_v23]
  simp only [s_apply x0 x1 x2 x3 x4 x5 x6 x7 x8 x9 x10 x11]
  rfl

theorem key_apply (j : Fin 512) : (val_main_v88 (F := Ideal) x0 x1 x2 x3 x6 x7 x10 (ix3 b t j) : EReal) = (inputs x0 x1 x2 x3 x4 x5 x6 x7 x8 x9 x10 x11).key b t j := by
  unfold Inputs.key writeKey
  pointwise [val_main_v88, val_main_v87, val_main_v86, val_main_cst_10, val_main_v85, val_main_v84, val_main_v83, val_main_v82,
    val_main_v81, val_main_cst_9, val_main_v25]
  rw [a_apply x0 x1 x2 x3 x4 x5 x6 x7 x8 x9 x10 x11, k_apply x0 x1 x2 x3 x4 x5 x6 x7 x8 x9 x10 x11]
  rfl

/-- Entry `e` of head `h`, and the head and entry of a channel. -/
abbrev chan (h : Fin 8) (e : Fin 64) : Fin 512 := ⟨h.val * 64 + e.val, by omega⟩

theorem head_chan (f : Fin 512 → EReal) (h : Fin 8) (e : Fin 64) : head f (chan h e) = ∑ x, f (chan h x) := by
  refine Finset.sum_congr rfl fun x _ => congrArg f (Fin.ext ?_)
  show 64 * ((h.val * 64 + e.val) / 64) + x.val = h.val * 64 + x.val
  omega

theorem k_heads_apply (h : Fin 8) (e : Fin 64) : (val_main_v72 (F := Ideal) x0 x1 x2 x3 x9 (ix4 b t h e) : EReal)
    = (inputs x0 x1 x2 x3 x4 x5 x6 x7 x8 x9 x10 x11).k b t (chan h e) * (inputs x0 x1 x2 x3 x4 x5 x6 x7 x8 x9 x10 x11).kk (chan h e) := by
  pointwise [val_main_v72, val_main_v71, val_main_v70, val_main_v69, val_main_v24]
  rw [k_apply x0 x1 x2 x3 x4 x5 x6 x7 x8 x9 x10 x11]
  rfl

theorem dir_apply (h : Fin 8) (e : Fin 64) : (val_main_v80 (F := Ideal) x0 x1 x2 x3 x9 (ix4 b t h e) : EReal)
    = (inputs x0 x1 x2 x3 x4 x5 x6 x7 x8 x9 x10 x11).dir b t (chan h e) := by
  unfold Inputs.dir unit
  pointwise [val_main_v80, val_main_v79, val_main_v78, val_main_v77, val_main_v76, val_main_cst_8, val_main_v75, val_main_v74,
    val_main_cst_7, val_main_v73]
  simp only [k_heads_apply x0 x1 x2 x3 x4 x5 x6 x7 x8 x9 x10 x11, head_chan]

theorem bonus_apply (h : Fin 8) (e : Fin 64) : (val_main_v102 (F := Ideal) x0 x1 x2 x3 x6 x7 x10 x11 (ix4 b t h e) : EReal)
    = (inputs x0 x1 x2 x3 x4 x5 x6 x7 x8 x9 x10 x11).bonus b t (chan h e) := by
  unfold Inputs.bonus
  pointwise [val_main_v102, val_main_v101, val_main_v100, val_main_v99, val_main_cst_11, val_main_v98, val_main_v97, val_main_v96,
    val_main_v95, val_main_v91, val_main_v90, val_main_v89, val_main_v26]
  rw [head_chan, v_apply x0 x1 x2 x3 x4 x5 x6 x7 x8 x9 x10 x11]
  simp only [r_apply x0 x1 x2 x3 x4 x5 x6 x7 x8 x9 x10 x11, key_apply x0 x1 x2 x3 x4 x5 x6 x7 x8 x9 x10 x11]
  congr 1
  refine Finset.sum_congr rfl fun x _ => congrArg _ (congrArg x11 ?_)
  congr 1 <;> exact Fin.ext (by simp only; omega)

/-- Head and entry of a channel. -/
theorem chan_split (j : Fin 512) : chan ⟨j.val / 64, by omega⟩ ⟨j.val % 64, by omega⟩ = j := Fin.ext (by simp only [chan]; omega)

/-- The operands in the chunked layout. -/
theorem rem_apply (n : Fin 32) (s : Fin 64) (j : Fin 512) : (val_main_v109 (F := Ideal) x0 x1 x2 x3 x4 x5 x9 (ix4 b n s j) : EReal)
    = (inputs x0 x1 x2 x3 x4 x5 x6 x7 x8 x9 x10 x11).remIn b (tok n s) j := by
  unfold Inputs.remIn
  pointwise [val_main_v109, val_main_v108, val_main_v107, val_main_v106, val_main_v93]
  rw [dir_apply x0 x1 x2 x3 x4 x5 x6 x7 x8 x9 x10 x11, chan_split, cum_apply x0 x1 x2 x3 x4 x5 x6 x7 x8 x9 x10 x11, gk_apply x0 x1 x2 x3 x4 x5 x6 x7 x8 x9 x10 x11]

theorem rIn_apply (n : Fin 32) (s : Fin 64) (j : Fin 512) : (val_main_v112 (F := Ideal) x0 x1 x2 x3 x4 x5 (ix4 b n s j) : EReal)
    = (inputs x0 x1 x2 x3 x4 x5 x6 x7 x8 x9 x10 x11).rIn b (tok n s) j := by
  unfold Inputs.rIn
  pointwise [val_main_v112, val_main_v111, val_main_v110]
  rw [r_apply x0 x1 x2 x3 x4 x5 x6 x7 x8 x9 x10 x11, cum_apply x0 x1 x2 x3 x4 x5 x6 x7 x8 x9 x10 x11]

theorem add_apply (n : Fin 32) (s : Fin 64) (j : Fin 512) : (val_main_v113 (F := Ideal) x0 x1 x2 x3 x6 x7 x9 (ix4 b n s j) : EReal)
    = (inputs x0 x1 x2 x3 x4 x5 x6 x7 x8 x9 x10 x11).dir b (tok n s) j * (inputs x0 x1 x2 x3 x4 x5 x6 x7 x8 x9 x10 x11).a b (tok n s) j := by
  pointwise [val_main_v113, val_main_v94, val_main_v92]
  rw [dir_apply x0 x1 x2 x3 x4 x5 x6 x7 x8 x9 x10 x11, chan_split, a_apply x0 x1 x2 x3 x4 x5 x6 x7 x8 x9 x10 x11]

theorem addIn_apply (n : Fin 32) (s : Fin 64) (j : Fin 512) :
    (val_main_v116 (F := Ideal) x0 x1 x2 x3 x4 x5 x6 x7 x9 (ix4 b n s j) : EReal) = (inputs x0 x1 x2 x3 x4 x5 x6 x7 x8 x9 x10 x11).addIn b (tok n s) j := by
  unfold Inputs.addIn
  pointwise [val_main_v116, val_main_v115, val_main_v114]
  rw [add_apply x0 x1 x2 x3 x4 x5 x6 x7 x8 x9 x10 x11, cum_apply x0 x1 x2 x3 x4 x5 x6 x7 x8 x9 x10 x11]

theorem keyIn_apply (n : Fin 32) (s : Fin 64) (j : Fin 512) :
    (val_main_v120 (F := Ideal) x0 x1 x2 x3 x4 x5 x6 x7 x10 (ix4 b n s j) : EReal) = (inputs x0 x1 x2 x3 x4 x5 x6 x7 x8 x9 x10 x11).keyIn b (tok n s) j := by
  unfold Inputs.keyIn
  pointwise [val_main_v120, val_main_v119, val_main_v118, val_main_v117]
  rw [key_apply x0 x1 x2 x3 x4 x5 x6 x7 x8 x9 x10 x11, cum_apply x0 x1 x2 x3 x4 x5 x6 x7 x8 x9 x10 x11]

/-- The factor of the end-of-chunk operands. -/
theorem end_apply (n : Fin 32) (s : Fin 64) (j : Fin 512) : (val_main_v124 (F := Ideal) x0 x1 x2 x3 x4 x5 (ix4 b n s j) : EReal)
    = Ideal.exp (-(inputs x0 x1 x2 x3 x4 x5 x6 x7 x8 x9 x10 x11).cum b (tok n s) j) * Ideal.exp ((inputs x0 x1 x2 x3 x4 x5 x6 x7 x8 x9 x10 x11).tot b (Inputs.chunk (tok n s)) j) := by
  have hn : Inputs.chunk (tok n s) = n := Fin.ext (by show (n.val * 64 + s.val) / 64 = n.val; omega)
  pointwise [val_main_v124, val_main_v123, val_main_v122]
  rw [← Inputs.exp_end, hn, tot_apply x0 x1 x2 x3 x4 x5 x6 x7 x8 x9 x10 x11, cum_apply x0 x1 x2 x3 x4 x5 x6 x7 x8 x9 x10 x11]

theorem addEnd_apply (n : Fin 32) (s : Fin 64) (j : Fin 512) :
    (val_main_v125 (F := Ideal) x0 x1 x2 x3 x4 x5 x6 x7 x9 (ix4 b n s j) : EReal) = (inputs x0 x1 x2 x3 x4 x5 x6 x7 x8 x9 x10 x11).addEnd b (tok n s) j := by
  unfold Inputs.addEnd Inputs.addIn
  rw [val_main_v125_apply, end_apply x0 x1 x2 x3 x4 x5 x6 x7 x8 x9 x10 x11, mul_assoc, ← add_apply x0 x1 x2 x3 x4 x5 x6 x7 x8 x9 x10 x11]
  rfl

theorem keyEnd_apply (n : Fin 32) (s : Fin 64) (j : Fin 512) :
    (val_main_v130 (F := Ideal) x0 x1 x2 x3 x4 x5 x6 x7 x10 (ix4 b n s j) : EReal) = (inputs x0 x1 x2 x3 x4 x5 x6 x7 x8 x9 x10 x11).keyEnd b (tok n s) j := by
  have h : (val_main_v126 (F := Ideal) x0 x1 x2 x3 x6 x7 x10 (ix4 b n s j) : EReal) = (inputs x0 x1 x2 x3 x4 x5 x6 x7 x8 x9 x10 x11).key b (tok n s) j := by
    pointwise [val_main_v126]
    exact key_apply ..
  unfold Inputs.keyEnd Inputs.keyIn
  rw [val_main_v130_apply, mul_assoc, ← end_apply x0 x1 x2 x3 x4 x5 x6 x7 x8 x9 x10 x11, ← h]
  rfl

/- The eleven results, at row `i` of the flattened tokens (or of the flattened chunks). -/

theorem tok_pos (i : Fin 32768) : tok ⟨i.val / 64 % 32, by omega⟩ ⟨i.val % 64, by omega⟩ = posOf i :=
  Fin.ext (by show i.val / 64 % 32 * 64 + i.val % 64 = i.val % 2048; omega)

theorem res_remIn (i : Fin 32768) (j : Fin 512) : (val_main_v133 (F := Ideal) x0 x1 x2 x3 x4 x5 x9 (ix2 i j) : EReal)
    = (inputs x0 x1 x2 x3 x4 x5 x6 x7 x8 x9 x10 x11).remIn (batchOf i) (posOf i) j := by
  pointwise [val_main_v133, val_main_v132]
  rw [rem_apply x0 x1 x2 x3 x4 x5 x6 x7 x8 x9 x10 x11, tok_pos]

theorem res_rIn (i : Fin 32768) (j : Fin 512) : (val_main_v135 (F := Ideal) x0 x1 x2 x3 x4 x5 (ix2 i j) : EReal)
    = (inputs x0 x1 x2 x3 x4 x5 x6 x7 x8 x9 x10 x11).rIn (batchOf i) (posOf i) j := by
  pointwise [val_main_v135, val_main_v134]
  rw [rIn_apply x0 x1 x2 x3 x4 x5 x6 x7 x8 x9 x10 x11, tok_pos]

theorem res_addIn (i : Fin 32768) (j : Fin 512) : (val_main_v137 (F := Ideal) x0 x1 x2 x3 x4 x5 x6 x7 x9 (ix2 i j) : EReal)
    = (inputs x0 x1 x2 x3 x4 x5 x6 x7 x8 x9 x10 x11).addIn (batchOf i) (posOf i) j := by
  pointwise [val_main_v137, val_main_v136]
  rw [addIn_apply x0 x1 x2 x3 x4 x5 x6 x7 x8 x9 x10 x11, tok_pos]

theorem res_keyIn (i : Fin 32768) (j : Fin 512) : (val_main_v139 (F := Ideal) x0 x1 x2 x3 x4 x5 x6 x7 x10 (ix2 i j) : EReal)
    = (inputs x0 x1 x2 x3 x4 x5 x6 x7 x8 x9 x10 x11).keyIn (batchOf i) (posOf i) j := by
  pointwise [val_main_v139, val_main_v138]
  rw [keyIn_apply x0 x1 x2 x3 x4 x5 x6 x7 x8 x9 x10 x11, tok_pos]

theorem res_addEnd (i : Fin 32768) (j : Fin 512) : (val_main_v141 (F := Ideal) x0 x1 x2 x3 x4 x5 x6 x7 x9 (ix2 i j) : EReal)
    = (inputs x0 x1 x2 x3 x4 x5 x6 x7 x8 x9 x10 x11).addEnd (batchOf i) (posOf i) j := by
  pointwise [val_main_v141, val_main_v140]
  rw [addEnd_apply x0 x1 x2 x3 x4 x5 x6 x7 x8 x9 x10 x11, tok_pos]

theorem res_keyEnd (i : Fin 32768) (j : Fin 512) : (val_main_v143 (F := Ideal) x0 x1 x2 x3 x4 x5 x6 x7 x10 (ix2 i j) : EReal)
    = (inputs x0 x1 x2 x3 x4 x5 x6 x7 x8 x9 x10 x11).keyEnd (batchOf i) (posOf i) j := by
  pointwise [val_main_v143, val_main_v142]
  rw [keyEnd_apply x0 x1 x2 x3 x4 x5 x6 x7 x8 x9 x10 x11, tok_pos]

theorem res_v (i : Fin 32768) (j : Fin 512) : (val_main_v145 (F := Ideal) x0 x1 x2 x3 (ix2 i j) : EReal)
    = (inputs x0 x1 x2 x3 x4 x5 x6 x7 x8 x9 x10 x11).v (batchOf i) (posOf i) j := by
  pointwise [val_main_v145, val_main_v144]
  exact v_apply ..

theorem res_gate (i : Fin 32768) (j : Fin 512) : (val_main_v146 (F := Ideal) x0 x1 x2 x3 x8 (ix2 i j) : EReal)
    = (inputs x0 x1 x2 x3 x4 x5 x6 x7 x8 x9 x10 x11).gate (batchOf i) (posOf i) j := by
  pointwise [val_main_v146]
  exact gate_apply ..

theorem res_bonus (i : Fin 32768) (j : Fin 512) : (val_main_v147 (F := Ideal) x0 x1 x2 x3 x6 x7 x10 x11 (ix2 i j) : EReal)
    = (inputs x0 x1 x2 x3 x4 x5 x6 x7 x8 x9 x10 x11).bonus (batchOf i) (posOf i) j := by
  pointwise [val_main_v147]
  rw [bonus_apply x0 x1 x2 x3 x4 x5 x6 x7 x8 x9 x10 x11, chan_split]

theorem res_decay (i : Fin 512) (j : Fin 512) : (val_main_v148 (F := Ideal) x0 x1 x2 x3 x4 x5 (ix2 i j) : EReal)
    = (inputs x0 x1 x2 x3 x4 x5 x6 x7 x8 x9 x10 x11).decay (batchOfChunk i) (chunkOf i) j := by
  unfold Inputs.decay
  pointwise [val_main_v148, val_main_v131]
  rw [tot_apply x0 x1 x2 x3 x4 x5 x6 x7 x8 x9 x10 x11]

theorem res_zgla (i : Fin 32768) (j : Fin 1664) : (val_main_v150 (F := Ideal) x0 x1 x2 (ix2 i j) : EReal)
    = (inputs x0 x1 x2 x3 x4 x5 x6 x7 x8 x9 x10 x11).zgla (batchOf i) (posOf i) j := by
  have h0 : FloatOps.sitofp (F := Ideal) FTy.f32 (0#32) = (0 : EReal) := by
    show (((0#32 : BitVec 32).toInt : ℝ) : EReal) = 0
    simp
  unfold Inputs.zgla
  pointwise [val_main_v150, val_main_v149, val_main_call3_v0, val_main_c_12, val_main_v17]
  simp only [z_apply x0 x1 x2 x3 x4 x5 x6 x7 x8 x9 x10 x11, h0]

end Cert.PrepReferenceIdeal.RefValue

end
-- ==== Proof.Prep.Claims.lean ====
/- The claims about the input projection and the recurrent mixer's operands: the frames, and that kernel and reference
   leave the same eleven arrays. The arrays are read at an index as the functions of Row.lean. -/
module

public import proofs.«01_k».proof.Defs
public import proofs.«01_k».proof.Proof.Prep.Kernel
public import proofs.«01_k».proof.Proof.Prep.Reference
public import proofs.«01_k».proof.Proof.Gen.PrepKernel.Frame
public import Idealize.ShloMosaic.Lib.Quiescent

@[expose] public section

set_option maxRecDepth 16384

noncomputable section

namespace Cert.Proof.Prep

open Idealize.ShloMosaic Idealize.ShloMosaic.TcCoe Idealize.SL.Sem
open Cert.PrepKernelIdeal.RefValue (tokens chunks inp)

/-- The frames of the kernel at the machine's words and at the extended reals. -/
theorem frame_kernel : Cert.quiescent_PrepKernel := fun m ρ _ => Cert.PrepKernel.Gen.frame m ρ
theorem frame_kernelIdeal : Cert.quiescent_PrepKernelIdeal := fun m ρ _ => Cert.PrepKernelIdeal.Gen.frame m ρ

/-- The reference keeps its arguments, and declares no semaphore. -/
theorem frame_reference : Cert.quiescent_PrepReferenceIdeal := fun m ρ _ =>
  (θ_run Cert.PrepReferenceIdeal.defs _ _).mono (fun r h => ⟨fun c => (h c).2.2.2.2.2.2.2.2.2.2.2,
      Idealize.ShloMosaic.sem_eq_zero_of_no_sems (by decide) r.2⟩)
    (Cert.PrepReferenceIdeal.Value.run (F := Ideal) m ρ)

/-- Kernel and reference leave the same arrays. -/
theorem algebraic : Cert.algebraic_PrepKernelIdeal_PrepReferenceIdeal := by
  intro m ρ m' ρ' _ hagree
  refine ⟨fun c => tokens (inp m c).remIn, fun c => tokens (inp m c).rIn, fun c => tokens (inp m c).addIn, fun c => tokens (inp m c).keyIn, fun c => tokens (inp m c).addEnd, fun c => tokens (inp m c).keyEnd, fun c => tokens (inp m c).v, fun c => tokens (inp m c).gate, fun c => tokens (inp m c).bonus, fun c => chunks (inp m c).decay, fun c => tokens (inp m c).zgla,
    Cert.PrepKernelIdeal.RefValue.run m ρ, ?_⟩
  refine (θ_run Cert.PrepReferenceIdeal.defs _ _).mono (fun r h c => ?_) (Cert.PrepReferenceIdeal.Value.run (F := Ideal) m' ρ')
  obtain ⟨e0, e1, e2, e3, e4, e5, e6, e7, e8, e9, e10, e11⟩ := hagree c
  replace e0 : StableHlo.launchContents m' c (Proc.tc.devRef Cert.PrepReferenceIdeal.main_arg0) = m (c.tc.loc Cert.PrepKernelIdeal.main_arg0) := e0
  replace e1 : StableHlo.launchContents m' c (Proc.tc.devRef Cert.PrepReferenceIdeal.main_arg1) = m (c.tc.loc Cert.PrepKernelIdeal.main_arg1) := e1
  replace e2 : StableHlo.launchContents m' c (Proc.tc.devRef Cert.PrepReferenceIdeal.main_arg2) = m (c.tc.loc Cert.PrepKernelIdeal.main_arg2) := e2
  replace e3 : StableHlo.launchContents m' c (Proc.tc.devRef Cert.PrepReferenceIdeal.main_arg3) = m (c.tc.loc Cert.PrepKernelIdeal.main_arg3) := e3
  replace e4 : StableHlo.launchContents m' c (Proc.tc.devRef Cert.PrepReferenceIdeal.main_arg4) = m (c.tc.loc Cert.PrepKernelIdeal.main_arg4) := e4
  replace e5 : StableHlo.launchContents m' c (Proc.tc.devRef Cert.PrepReferenceIdeal.main_arg5) = m (c.tc.loc Cert.PrepKernelIdeal.main_arg5) := e5
  replace e6 : StableHlo.launchContents m' c (Proc.tc.devRef Cert.PrepReferenceIdeal.main_arg6) = m (c.tc.loc Cert.PrepKernelIdeal.main_arg6) := e6
  replace e7 : StableHlo.launchContents m' c (Proc.tc.devRef Cert.PrepReferenceIdeal.main_arg7) = m (c.tc.loc Cert.PrepKernelIdeal.main_arg7) := e7
  replace e8 : StableHlo.launchContents m' c (Proc.tc.devRef Cert.PrepReferenceIdeal.main_arg8) = m (c.tc.loc Cert.PrepKernelIdeal.main_arg8) := e8
  replace e9 : StableHlo.launchContents m' c (Proc.tc.devRef Cert.PrepReferenceIdeal.main_arg9) = m (c.tc.loc Cert.PrepKernelIdeal.main_arg9) := e9
  replace e10 : StableHlo.launchContents m' c (Proc.tc.devRef Cert.PrepReferenceIdeal.main_arg10) = m (c.tc.loc Cert.PrepKernelIdeal.main_arg10) := e10
  replace e11 : StableHlo.launchContents m' c (Proc.tc.devRef Cert.PrepReferenceIdeal.main_arg11) = m (c.tc.loc Cert.PrepKernelIdeal.main_arg11) := e11
  obtain ⟨h0, h1, h2, h3, h4, h5, h6, h7, h8, h9, h10, hk⟩ := h c
  refine ⟨?_, ?_, ?_, ?_, ?_, ?_, ?_, ?_, ?_, ?_, ?_, hk⟩
  · refine h0.trans ?_
    clear h h0 h1 h2 h3 h4 h5 h6 h7 h8 h9 h10 hk
    rw [Cert.PrepReferenceIdeal.Read.val_main_v133_eq, e0, e1, e2, e3, e4, e5, e9]
    funext i
    obtain ⟨a, b, rfl⟩ : ∃ (a : Fin 32768) (b : Fin 512), i = ix2 a b := ⟨i 0, i 1, eq_ix2 i⟩
    exact Cert.PrepReferenceIdeal.RefValue.res_remIn (m (c.tc.loc Cert.PrepKernelIdeal.main_arg0)) (m (c.tc.loc Cert.PrepKernelIdeal.main_arg1)) (m (c.tc.loc Cert.PrepKernelIdeal.main_arg2))
      (m (c.tc.loc Cert.PrepKernelIdeal.main_arg3)) (m (c.tc.loc Cert.PrepKernelIdeal.main_arg4)) (m (c.tc.loc Cert.PrepKernelIdeal.main_arg5)) (m (c.tc.loc Cert.PrepKernelIdeal.main_arg6))
      (m (c.tc.loc Cert.PrepKernelIdeal.main_arg7)) (m (c.tc.loc Cert.PrepKernelIdeal.main_arg8)) (m (c.tc.loc Cert.PrepKernelIdeal.main_arg9)) (m (c.tc.loc Cert.PrepKernelIdeal.main_arg10))
      (m (c.tc.loc Cert.PrepKernelIdeal.main_arg11)) a b
  · refine h1.trans ?_
    clear h h0 h1 h2 h3 h4 h5 h6 h7 h8 h9 h10 hk
    rw [Cert.PrepReferenceIdeal.Read.val_main_v135_eq, e0, e1, e2, e3, e4, e5]
    funext i
    obtain ⟨a, b, rfl⟩ : ∃ (a : Fin 32768) (b : Fin 512), i = ix2 a b := ⟨i 0, i 1, eq_ix2 i⟩
    exact Cert.PrepReferenceIdeal.RefValue.res_rIn (m (c.tc.loc Cert.PrepKernelIdeal.main_arg0)) (m (c.tc.loc Cert.PrepKernelIdeal.main_arg1)) (m (c.tc.loc Cert.PrepKernelIdeal.main_arg2))
      (m (c.tc.loc Cert.PrepKernelIdeal.main_arg3)) (m (c.tc.loc Cert.PrepKernelIdeal.main_arg4)) (m (c.tc.loc Cert.PrepKernelIdeal.main_arg5)) (m (c.tc.loc Cert.PrepKernelIdeal.main_arg6))
      (m (c.tc.loc Cert.PrepKernelIdeal.main_arg7)) (m (c.tc.loc Cert.PrepKernelIdeal.main_arg8)) (m (c.tc.loc Cert.PrepKernelIdeal.main_arg9)) (m (c.tc.loc Cert.PrepKernelIdeal.main_arg10))
      (m (c.tc.loc Cert.PrepKernelIdeal.main_arg11)) a b
  · refine h2.trans ?_
    clear h h0 h1 h2 h3 h4 h5 h6 h7 h8 h9 h10 hk
    rw [Cert.PrepReferenceIdeal.Read.val_main_v137_eq, e0, e1, e2, e3, e4, e5, e6, e7, e9]
    funext i
    obtain ⟨a, b, rfl⟩ : ∃ (a : Fin 32768) (b : Fin 512), i = ix2 a b := ⟨i 0, i 1, eq_ix2 i⟩
    exact Cert.PrepReferenceIdeal.RefValue.res_addIn (m (c.tc.loc Cert.PrepKernelIdeal.main_arg0)) (m (c.tc.loc Cert.PrepKernelIdeal.main_arg1)) (m (c.tc.loc Cert.PrepKernelIdeal.main_arg2))
      (m (c.tc.loc Cert.PrepKernelIdeal.main_arg3)) (m (c.tc.loc Cert.PrepKernelIdeal.main_arg4)) (m (c.tc.loc Cert.PrepKernelIdeal.main_arg5)) (m (c.tc.loc Cert.PrepKernelIdeal.main_arg6))
      (m (c.tc.loc Cert.PrepKernelIdeal.main_arg7)) (m (c.tc.loc Cert.PrepKernelIdeal.main_arg8)) (m (c.tc.loc Cert.PrepKernelIdeal.main_arg9)) (m (c.tc.loc Cert.PrepKernelIdeal.main_arg10))
      (m (c.tc.loc Cert.PrepKernelIdeal.main_arg11)) a b
  · refine h3.trans ?_
    clear h h0 h1 h2 h3 h4 h5 h6 h7 h8 h9 h10 hk
    rw [Cert.PrepReferenceIdeal.Read.val_main_v139_eq, e0, e1, e2, e3, e4, e5, e6, e7, e10]
    funext i
    obtain ⟨a, b, rfl⟩ : ∃ (a : Fin 32768) (b : Fin 512), i = ix2 a b := ⟨i 0, i 1, eq_ix2 i⟩
    exact Cert.PrepReferenceIdeal.RefValue.res_keyIn (m (c.tc.loc Cert.PrepKernelIdeal.main_arg0)) (m (c.tc.loc Cert.PrepKernelIdeal.main_arg1)) (m (c.tc.loc Cert.PrepKernelIdeal.main_arg2))
      (m (c.tc.loc Cert.PrepKernelIdeal.main_arg3)) (m (c.tc.loc Cert.PrepKernelIdeal.main_arg4)) (m (c.tc.loc Cert.PrepKernelIdeal.main_arg5)) (m (c.tc.loc Cert.PrepKernelIdeal.main_arg6))
      (m (c.tc.loc Cert.PrepKernelIdeal.main_arg7)) (m (c.tc.loc Cert.PrepKernelIdeal.main_arg8)) (m (c.tc.loc Cert.PrepKernelIdeal.main_arg9)) (m (c.tc.loc Cert.PrepKernelIdeal.main_arg10))
      (m (c.tc.loc Cert.PrepKernelIdeal.main_arg11)) a b
  · refine h4.trans ?_
    clear h h0 h1 h2 h3 h4 h5 h6 h7 h8 h9 h10 hk
    rw [Cert.PrepReferenceIdeal.Read.val_main_v141_eq, e0, e1, e2, e3, e4, e5, e6, e7, e9]
    funext i
    obtain ⟨a, b, rfl⟩ : ∃ (a : Fin 32768) (b : Fin 512), i = ix2 a b := ⟨i 0, i 1, eq_ix2 i⟩
    exact Cert.PrepReferenceIdeal.RefValue.res_addEnd (m (c.tc.loc Cert.PrepKernelIdeal.main_arg0)) (m (c.tc.loc Cert.PrepKernelIdeal.main_arg1)) (m (c.tc.loc Cert.PrepKernelIdeal.main_arg2))
      (m (c.tc.loc Cert.PrepKernelIdeal.main_arg3)) (m (c.tc.loc Cert.PrepKernelIdeal.main_arg4)) (m (c.tc.loc Cert.PrepKernelIdeal.main_arg5)) (m (c.tc.loc Cert.PrepKernelIdeal.main_arg6))
      (m (c.tc.loc Cert.PrepKernelIdeal.main_arg7)) (m (c.tc.loc Cert.PrepKernelIdeal.main_arg8)) (m (c.tc.loc Cert.PrepKernelIdeal.main_arg9)) (m (c.tc.loc Cert.PrepKernelIdeal.main_arg10))
      (m (c.tc.loc Cert.PrepKernelIdeal.main_arg11)) a b
  · refine h5.trans ?_
    clear h h0 h1 h2 h3 h4 h5 h6 h7 h8 h9 h10 hk
    rw [Cert.PrepReferenceIdeal.Read.val_main_v143_eq, e0, e1, e2, e3, e4, e5, e6, e7, e10]
    funext i
    obtain ⟨a, b, rfl⟩ : ∃ (a : Fin 32768) (b : Fin 512), i = ix2 a b := ⟨i 0, i 1, eq_ix2 i⟩
    exact Cert.PrepReferenceIdeal.RefValue.res_keyEnd (m (c.tc.loc Cert.PrepKernelIdeal.main_arg0)) (m (c.tc.loc Cert.PrepKernelIdeal.main_arg1)) (m (c.tc.loc Cert.PrepKernelIdeal.main_arg2))
      (m (c.tc.loc Cert.PrepKernelIdeal.main_arg3)) (m (c.tc.loc Cert.PrepKernelIdeal.main_arg4)) (m (c.tc.loc Cert.PrepKernelIdeal.main_arg5)) (m (c.tc.loc Cert.PrepKernelIdeal.main_arg6))
      (m (c.tc.loc Cert.PrepKernelIdeal.main_arg7)) (m (c.tc.loc Cert.PrepKernelIdeal.main_arg8)) (m (c.tc.loc Cert.PrepKernelIdeal.main_arg9)) (m (c.tc.loc Cert.PrepKernelIdeal.main_arg10))
      (m (c.tc.loc Cert.PrepKernelIdeal.main_arg11)) a b
  · refine h6.trans ?_
    clear h h0 h1 h2 h3 h4 h5 h6 h7 h8 h9 h10 hk
    rw [Cert.PrepReferenceIdeal.Read.val_main_v145_eq, e0, e1, e2, e3]
    funext i
    obtain ⟨a, b, rfl⟩ : ∃ (a : Fin 32768) (b : Fin 512), i = ix2 a b := ⟨i 0, i 1, eq_ix2 i⟩
    exact Cert.PrepReferenceIdeal.RefValue.res_v (m (c.tc.loc Cert.PrepKernelIdeal.main_arg0)) (m (c.tc.loc Cert.PrepKernelIdeal.main_arg1)) (m (c.tc.loc Cert.PrepKernelIdeal.main_arg2))
      (m (c.tc.loc Cert.PrepKernelIdeal.main_arg3)) (m (c.tc.loc Cert.PrepKernelIdeal.main_arg4)) (m (c.tc.loc Cert.PrepKernelIdeal.main_arg5)) (m (c.tc.loc Cert.PrepKernelIdeal.main_arg6))
      (m (c.tc.loc Cert.PrepKernelIdeal.main_arg7)) (m (c.tc.loc Cert.PrepKernelIdeal.main_arg8)) (m (c.tc.loc Cert.PrepKernelIdeal.main_arg9)) (m (c.tc.loc Cert.PrepKernelIdeal.main_arg10))
      (m (c.tc.loc Cert.PrepKernelIdeal.main_arg11)) a b
  · refine h7.trans ?_
    clear h h0 h1 h2 h3 h4 h5 h6 h7 h8 h9 h10 hk
    rw [Cert.PrepReferenceIdeal.Read.val_main_v146_eq, e0, e1, e2, e3, e8]
    funext i
    obtain ⟨a, b, rfl⟩ : ∃ (a : Fin 32768) (b : Fin 512), i = ix2 a b := ⟨i 0, i 1, eq_ix2 i⟩
    exact Cert.PrepReferenceIdeal.RefValue.res_gate (m (c.tc.loc Cert.PrepKernelIdeal.main_arg0)) (m (c.tc.loc Cert.PrepKernelIdeal.main_arg1)) (m (c.tc.loc Cert.PrepKernelIdeal.main_arg2))
      (m (c.tc.loc Cert.PrepKernelIdeal.main_arg3)) (m (c.tc.loc Cert.PrepKernelIdeal.main_arg4)) (m (c.tc.loc Cert.PrepKernelIdeal.main_arg5)) (m (c.tc.loc Cert.PrepKernelIdeal.main_arg6))
      (m (c.tc.loc Cert.PrepKernelIdeal.main_arg7)) (m (c.tc.loc Cert.PrepKernelIdeal.main_arg8)) (m (c.tc.loc Cert.PrepKernelIdeal.main_arg9)) (m (c.tc.loc Cert.PrepKernelIdeal.main_arg10))
      (m (c.tc.loc Cert.PrepKernelIdeal.main_arg11)) a b
  · refine h8.trans ?_
    clear h h0 h1 h2 h3 h4 h5 h6 h7 h8 h9 h10 hk
    rw [Cert.PrepReferenceIdeal.Read.val_main_v147_eq, e0, e1, e2, e3, e6, e7, e10, e11]
    funext i
    obtain ⟨a, b, rfl⟩ : ∃ (a : Fin 32768) (b : Fin 512), i = ix2 a b := ⟨i 0, i 1, eq_ix2 i⟩
    exact Cert.PrepReferenceIdeal.RefValue.res_bonus (m (c.tc.loc Cert.PrepKernelIdeal.main_arg0)) (m (c.tc.loc Cert.PrepKernelIdeal.main_arg1)) (m (c.tc.loc Cert.PrepKernelIdeal.main_arg2))
      (m (c.tc.loc Cert.PrepKernelIdeal.main_arg3)) (m (c.tc.loc Cert.PrepKernelIdeal.main_arg4)) (m (c.tc.loc Cert.PrepKernelIdeal.main_arg5)) (m (c.tc.loc Cert.PrepKernelIdeal.main_arg6))
      (m (c.tc.loc Cert.PrepKernelIdeal.main_arg7)) (m (c.tc.loc Cert.PrepKernelIdeal.main_arg8)) (m (c.tc.loc Cert.PrepKernelIdeal.main_arg9)) (m (c.tc.loc Cert.PrepKernelIdeal.main_arg10))
      (m (c.tc.loc Cert.PrepKernelIdeal.main_arg11)) a b
  · refine h9.trans ?_
    clear h h0 h1 h2 h3 h4 h5 h6 h7 h8 h9 h10 hk
    rw [Cert.PrepReferenceIdeal.Read.val_main_v148_eq, e0, e1, e2, e3, e4, e5]
    funext i
    obtain ⟨a, b, rfl⟩ : ∃ (a : Fin 512) (b : Fin 512), i = ix2 a b := ⟨i 0, i 1, eq_ix2 i⟩
    exact Cert.PrepReferenceIdeal.RefValue.res_decay (m (c.tc.loc Cert.PrepKernelIdeal.main_arg0)) (m (c.tc.loc Cert.PrepKernelIdeal.main_arg1)) (m (c.tc.loc Cert.PrepKernelIdeal.main_arg2))
      (m (c.tc.loc Cert.PrepKernelIdeal.main_arg3)) (m (c.tc.loc Cert.PrepKernelIdeal.main_arg4)) (m (c.tc.loc Cert.PrepKernelIdeal.main_arg5)) (m (c.tc.loc Cert.PrepKernelIdeal.main_arg6))
      (m (c.tc.loc Cert.PrepKernelIdeal.main_arg7)) (m (c.tc.loc Cert.PrepKernelIdeal.main_arg8)) (m (c.tc.loc Cert.PrepKernelIdeal.main_arg9)) (m (c.tc.loc Cert.PrepKernelIdeal.main_arg10))
      (m (c.tc.loc Cert.PrepKernelIdeal.main_arg11)) a b
  · refine h10.trans ?_
    clear h h0 h1 h2 h3 h4 h5 h6 h7 h8 h9 h10 hk
    rw [Cert.PrepReferenceIdeal.Read.val_main_v150_eq, e0, e1, e2]
    funext i
    obtain ⟨a, b, rfl⟩ : ∃ (a : Fin 32768) (b : Fin 1664), i = ix2 a b := ⟨i 0, i 1, eq_ix2 i⟩
    exact Cert.PrepReferenceIdeal.RefValue.res_zgla (m (c.tc.loc Cert.PrepKernelIdeal.main_arg0)) (m (c.tc.loc Cert.PrepKernelIdeal.main_arg1)) (m (c.tc.loc Cert.PrepKernelIdeal.main_arg2))
      (m (c.tc.loc Cert.PrepKernelIdeal.main_arg3)) (m (c.tc.loc Cert.PrepKernelIdeal.main_arg4)) (m (c.tc.loc Cert.PrepKernelIdeal.main_arg5)) (m (c.tc.loc Cert.PrepKernelIdeal.main_arg6))
      (m (c.tc.loc Cert.PrepKernelIdeal.main_arg7)) (m (c.tc.loc Cert.PrepKernelIdeal.main_arg8)) (m (c.tc.loc Cert.PrepKernelIdeal.main_arg9)) (m (c.tc.loc Cert.PrepKernelIdeal.main_arg10))
      (m (c.tc.loc Cert.PrepKernelIdeal.main_arg11)) a b

end Cert.Proof.Prep

end
-- ==== Proof.lean ====
module

public import proofs.«01_k».proof.Defs
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnKernelIdeal.Value
public import proofs.«01_k».proof.Proof.Gen.FfnReferenceIdeal.Run
public import proofs.«01_k».proof.Proof.Gen.FfnReferenceIdeal.Read
public import proofs.«01_k».proof.Proof.Ffn.Claims
public import proofs.«01_k».proof.Proof.Gen.PrepKernel
public import proofs.«01_k».proof.Proof.Gen.PrepKernel.Skeleton
public import proofs.«01_k».proof.Proof.Gen.PrepKernel.Launch
public import proofs.«01_k».proof.Proof.Gen.PrepKernel.Points
public import proofs.«01_k».proof.Proof.Gen.PrepKernel.Frame
public import proofs.«01_k».proof.Proof.Gen.PrepKernelIdeal
public import proofs.«01_k».proof.Proof.Gen.PrepKernelIdeal.Skeleton
public import proofs.«01_k».proof.Proof.Gen.PrepKernelIdeal.Launch
public import proofs.«01_k».proof.Proof.Gen.PrepKernelIdeal.Points
public import proofs.«01_k».proof.Proof.Gen.PrepKernelIdeal.Frame
public import proofs.«01_k».proof.Proof.Gen.PrepReferenceIdeal
public import proofs.«01_k».proof.Proof.Gen.PrepKernelIdeal.Value
public import proofs.«01_k».proof.Proof.Gen.PrepReferenceIdeal.Run
public import proofs.«01_k».proof.Proof.Gen.PrepReferenceIdeal.Read
public import proofs.«01_k».proof.Proof.Prep.Claims
public import Idealize.ShloMosaic.Adequacy
public import Idealize.ShloMosaic.Init

@[expose] public section

noncomputable section

namespace Cert.Proof

open Idealize.ShloMosaic Idealize.SL.Sem Cert.FfnKernel

/-- Everything the certificate claims. -/
theorem claim : Cert.Claim := ⟨Cert.FfnKernel.Gen.facts, Cert.FfnKernelIdeal.Gen.facts, Cert.FfnReferenceIdeal.Gen.facts,
  Cert.PrepKernel.Gen.facts, Cert.PrepKernelIdeal.Gen.facts, Cert.PrepReferenceIdeal.Gen.facts,
  Ffn.frame_kernel, Ffn.frame_kernelIdeal, Ffn.frame_reference,
  Prep.frame_kernel, Prep.frame_kernelIdeal, Prep.frame_reference,
  trivial, Ffn.algebraic, trivial, Prep.algebraic⟩

end Cert.Proof

end
